-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))
      ∧ r.2.sem = fun _ => 0)

def preserves_Kernel_KernelIdeal : Prop :=
  IdealRules.named_const.Statement Cert.KernelIdeal.κ "inv_sqrt_two" .f32 0x3F3504F3#32 (((Real.sqrt 2)⁻¹ : ℝ) : EReal)
  ∧ IdealRules.sign_bit.Statement Cert.KernelIdeal.S24x36 .f32
  ∧ IdealRules.sign_bit.Statement Cert.KernelIdeal.S8x36 .f32

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v543) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x768x576 : Shape := ⟨3, ![4, 768, 576]⟩
abbrev S768x96x1x1 : Shape := ⟨4, ![768, 96, 1, 1]⟩
abbrev S96x1x6x6 : Shape := ⟨4, ![96, 1, 6, 6]⟩
abbrev S96 : Shape := ⟨1, ![96]⟩
abbrev S2x96x1x1 : Shape := ⟨4, ![2, 96, 1, 1]⟩
abbrev S192x2 : Shape := ⟨2, ![192, 2]⟩
abbrev S192 : Shape := ⟨1, ![192]⟩
abbrev S192x192 : Shape := ⟨2, ![192, 192]⟩
abbrev S1x192 : Shape := ⟨2, ![1, 192]⟩
abbrev S1 : Shape := ⟨1, ![1]⟩
abbrev S768x768x1x1 : Shape := ⟨4, ![768, 768, 1, 1]⟩
abbrev S768 : Shape := ⟨1, ![768]⟩
abbrev S4x8x96x576 : Shape := ⟨4, ![4, 8, 96, 576]⟩
abbrev S768x96 : Shape := ⟨2, ![768, 96]⟩
abbrev S8x96x96 : Shape := ⟨3, ![8, 96, 96]⟩
abbrev S_ : Shape := ⟨0, ![]⟩
abbrev S96x6x6 : Shape := ⟨3, ![96, 6, 6]⟩
abbrev S6x6x96 : Shape := ⟨3, ![6, 6, 96]⟩
abbrev S1x96 : Shape := ⟨2, ![1, 96]⟩
abbrev S2x96 : Shape := ⟨2, ![2, 96]⟩
abbrev S2x192 : Shape := ⟨2, ![2, 192]⟩
abbrev S192x8 : Shape := ⟨2, ![192, 8]⟩
abbrev S1x1 : Shape := ⟨2, ![1, 1]⟩
abbrev S768x768 : Shape := ⟨2, ![768, 768]⟩
abbrev S768x8x96 : Shape := ⟨3, ![768, 8, 96]⟩
abbrev S8x768x96 : Shape := ⟨3, ![8, 768, 96]⟩
abbrev S768x1 : Shape := ⟨2, ![768, 1]⟩
abbrev S1x1x96x576 : Shape := ⟨4, ![1, 1, 96, 576]⟩
abbrev S1x96x96 : Shape := ⟨3, ![1, 96, 96]⟩
abbrev S1x768x96 : Shape := ⟨3, ![1, 768, 96]⟩
abbrev S1x768x576 : Shape := ⟨3, ![1, 768, 576]⟩
abbrev S96x576 : Shape := ⟨2, ![96, 576]⟩
abbrev S96x96 : Shape := ⟨2, ![96, 96]⟩
abbrev S576x96 : Shape := ⟨2, ![576, 96]⟩
abbrev S24x24x96 : Shape := ⟨3, ![24, 24, 96]⟩
abbrev S1x24x96 : Shape := ⟨3, ![1, 24, 96]⟩
abbrev S26x24x96 : Shape := ⟨3, ![26, 24, 96]⟩
abbrev S26x1x96 : Shape := ⟨3, ![26, 1, 96]⟩
abbrev S26x26x96 : Shape := ⟨3, ![26, 26, 96]⟩
abbrev S1x1x96 : Shape := ⟨3, ![1, 1, 96]⟩
abbrev S36x96 : Shape := ⟨2, ![36, 96]⟩
abbrev S2x36 : Shape := ⟨2, ![2, 36]⟩
abbrev S1x36 : Shape := ⟨2, ![1, 36]⟩
abbrev S576x36 : Shape := ⟨2, ![576, 36]⟩
abbrev S96x36 : Shape := ⟨2, ![96, 36]⟩
abbrev S24x1 : Shape := ⟨2, ![24, 1]⟩
abbrev S24x36 : Shape := ⟨2, ![24, 36]⟩
abbrev S24x36x1 : Shape := ⟨3, ![24, 36, 1]⟩
abbrev S1x1x192 : Shape := ⟨3, ![1, 1, 192]⟩
abbrev S24x36x192 : Shape := ⟨3, ![24, 36, 192]⟩
abbrev S8x1 : Shape := ⟨2, ![8, 1]⟩
abbrev S8x36 : Shape := ⟨2, ![8, 36]⟩
abbrev S8x36x1 : Shape := ⟨3, ![8, 36, 1]⟩
abbrev S8x36x192 : Shape := ⟨3, ![8, 36, 192]⟩
abbrev S1x24x36x192 : Shape := ⟨4, ![1, 24, 36, 192]⟩
abbrev S8x1x36x192 : Shape := ⟨4, ![8, 1, 36, 192]⟩
abbrev S8x24x36x192 : Shape := ⟨4, ![8, 24, 36, 192]⟩
abbrev S6912x192 : Shape := ⟨2, ![6912, 192]⟩
abbrev S6912x8 : Shape := ⟨2, ![6912, 8]⟩
abbrev S6912x1 : Shape := ⟨2, ![6912, 1]⟩
abbrev S192x36 : Shape := ⟨2, ![192, 36]⟩
abbrev S576 : Shape := ⟨1, ![576]⟩
abbrev S576x1 : Shape := ⟨2, ![576, 1]⟩
abbrev S768x576 : Shape := ⟨2, ![768, 576]⟩

abbrev nBuf : Space → Nat
  | .hbm => 46
  | .vmem => 22
  | .smem => 0
  | _ => 0

abbrev bufTy : (tb : Table) → Fin (tcTables nBuf tb) → BufTy
  | .hbm, ⟨0, _⟩ => ⟨S4x768x576, .f32⟩
  | .hbm, ⟨1, _⟩ => ⟨S768x96x1x1, .f32⟩
  | .hbm, ⟨2, _⟩ => ⟨S768x96x1x1, .f32⟩
  | .hbm, ⟨3, _⟩ => ⟨S768x96x1x1, .f32⟩
  | .hbm, ⟨4, _⟩ => ⟨S96x1x6x6, .f32⟩
  | .hbm, ⟨5, _⟩ => ⟨S96, .f32⟩
  | .hbm, ⟨6, _⟩ => ⟨S2x96x1x1, .f32⟩
  | .hbm, ⟨7, _⟩ => ⟨S192x2, .f32⟩
  | .hbm, ⟨8, _⟩ => ⟨S192, .f32⟩
  | .hbm, ⟨9, _⟩ => ⟨S192x192, .f32⟩
  | .hbm, ⟨10, _⟩ => ⟨S192, .f32⟩
  | .hbm, ⟨11, _⟩ => ⟨S1x192, .f32⟩
  | .hbm, ⟨12, _⟩ => ⟨S1, .f32⟩
  | .hbm, ⟨13, _⟩ => ⟨S768x768x1x1, .f32⟩
  | .hbm, ⟨14, _⟩ => ⟨S768, .f32⟩
  | .hbm, ⟨15, _⟩ => ⟨S4x8x96x576, .f32⟩
  | .hbm, ⟨16, _⟩ => ⟨S768x96, .f32⟩
  | .hbm, ⟨17, _⟩ => ⟨S8x96x96, .f32⟩
  | .hbm, ⟨18, _⟩ => ⟨S768x96, .f32⟩
  | .hbm, ⟨19, _⟩ => ⟨S8x96x96, .f32⟩
  | .hbm, ⟨20, _⟩ => ⟨S_, .f32⟩
  | .hbm, ⟨21, _⟩ => ⟨S8x96x96, .f32⟩
  | .hbm, ⟨22, _⟩ => ⟨S8x96x96, .f32⟩
  | .hbm, ⟨23, _⟩ => ⟨S768x96, .f32⟩
  | .hbm, ⟨24, _⟩ => ⟨S8x96x96, .f32⟩
  | .hbm, ⟨25, _⟩ => ⟨S96x6x6, .f32⟩
  | .hbm, ⟨26, _⟩ => ⟨S6x6x96, .f32⟩
  | .hbm, ⟨27, _⟩ => ⟨S1x96, .f32⟩
  | .hbm, ⟨28, _⟩ => ⟨S2x96, .f32⟩
  | .hbm, ⟨29, _⟩ => ⟨S2x192, .f32⟩
  | .hbm, ⟨30, _⟩ => ⟨S1x192, .f32⟩
  | .hbm, ⟨31, _⟩ => ⟨S1x192, .f32⟩
  | .hbm, ⟨32, _⟩ => ⟨S192x192, .bf16⟩
  | .hbm, ⟨33, _⟩ => ⟨S_, .f32⟩
  | .hbm, ⟨34, _⟩ => ⟨S192x8, .f32⟩
  | .hbm, ⟨35, _⟩ => ⟨S192, .f32⟩
  | .hbm, ⟨36, _⟩ => ⟨S_, .i32⟩
  | .hbm, ⟨37, _⟩ => ⟨S1, .i32⟩
  | .hbm, ⟨38, _⟩ => ⟨S192x8, .f32⟩
  | .hbm, ⟨39, _⟩ => ⟨S1x1, .f32⟩
  | .hbm, ⟨40, _⟩ => ⟨S768x768, .f32⟩
  | .hbm, ⟨41, _⟩ => ⟨S768x8x96, .f32⟩
  | .hbm, ⟨42, _⟩ => ⟨S8x768x96, .f32⟩
  | .hbm, ⟨43, _⟩ => ⟨S8x768x96, .bf16⟩
  | .hbm, ⟨44, _⟩ => ⟨S768x1, .f32⟩
  | .hbm, ⟨45, _⟩ => ⟨S4x768x576, .f32⟩
  | .local _ .vmem, ⟨0, _⟩ => ⟨S1x1x96x576, .f32⟩
  | .local _ .vmem, ⟨1, _⟩ => ⟨S1x1x96x576, .f32⟩
  | .local _ .vmem, ⟨2, _⟩ => ⟨S1x96x96, .f32⟩
  | .local _ .vmem, ⟨3, _⟩ => ⟨S1x96x96, .f32⟩
  | .local _ .vmem, ⟨4, _⟩ => ⟨S1x96x96, .f32⟩
  | .local _ .vmem, ⟨5, _⟩ => ⟨S1x96x96, .f32⟩
  | .local _ .vmem, ⟨6, _⟩ => ⟨S1x96x96, .f32⟩
  | .local _ .vmem, ⟨7, _⟩ => ⟨S1x96x96, .f32⟩
  | .local _ .vmem, ⟨8, _⟩ => ⟨S6x6x96, .f32⟩
  | .local _ .vmem, ⟨9, _⟩ => ⟨S1x96, .f32⟩
  | .local _ .vmem, ⟨10, _⟩ => ⟨S2x96, .f32⟩
  | .local _ .vmem, ⟨11, _⟩ => ⟨S2x192, .f32⟩
  | .local _ .vmem, ⟨12, _⟩ => ⟨S1x192, .f32⟩
  | .local _ .vmem, ⟨13, _⟩ => ⟨S192x192, .bf16⟩
  | .local _ .vmem, ⟨14, _⟩ => ⟨S1x192, .f32⟩
  | .local _ .vmem, ⟨15, _⟩ => ⟨S192x8, .f32⟩
  | .local _ .vmem, ⟨16, _⟩ => ⟨S1x1, .f32⟩
  | .local _ .vmem, ⟨17, _⟩ => ⟨S1x768x96, .bf16⟩
  | .local _ .vmem, ⟨18, _⟩ => ⟨S1x768x96, .bf16⟩
  | .local _ .vmem, ⟨19, _⟩ => ⟨S768x1, .f32⟩
  | .local _ .vmem, ⟨20, _⟩ => ⟨S1x768x576, .f32⟩
  | .local _ .vmem, ⟨21, _⟩ => ⟨S1x768x576, .f32⟩
  | _, _ => ⟨S4x768x576, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_cst : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_cst_0 : Ref sig .tc := ⟨.hbm, 33, rfl⟩
abbrev main_v17 : Ref sig .tc := ⟨.hbm, 34, rfl⟩
abbrev main_v18 : Ref sig .tc := ⟨.hbm, 35, rfl⟩
abbrev main_c : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg13_1 : Ref sig .tc := ⟨.vmem, 18, rfl⟩
abbrev cc0_stg14_0 : Ref sig .tc := ⟨.vmem, 19, rfl⟩
abbrev cc0_stg15_0 : Ref sig .tc := ⟨.vmem, 20, rfl⟩
abbrev cc0_stg15_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem13_1 : DmaSem sig := 18
abbrev cc0_sem14_0 : DmaSem sig := 19
abbrev cc0_sem15_0 : DmaSem sig := 20
abbrev cc0_sem15_1 : DmaSem sig := 21

abbrev nD : Nat := 1
abbrev τ : Topo := Topo.v7x

variable {F : FTy → Type} [BitOps F]

abbrev grid0 : Pipeline.Grid := ⟨2, ![4, 8], ![false, false]⟩

def k0_cond1 (i : grid0.Coords) : BitVec 1 :=
  let arg1 : BitVec 32 := BitVec.ofNat 32 (i 1).val
  let c0_i32_221 : BitVec 32 := 0#32
  let v704 : BitVec 1 := Scalar.cmpi .eq arg1 c0_i32_221
  let v705 : BitVec 32 := Scalar.extui v704
  let c0_i32_222 : BitVec 32 := 0#32
  let v706 : BitVec 1 := Scalar.cmpi .ne v705 c0_i32_222
  v706

def k0_cond2 (i : grid0.Coords) : BitVec 1 :=
  let arg1 : BitVec 32 := BitVec.ofNat 32 (i 1).val
  let c0_i32_223 : BitVec 32 := 0#32
  let v707 : BitVec 1 := Scalar.cmpi .ne arg1 c0_i32_223
  let v708 : BitVec 32 := Scalar.extui v707
  let c0_i32_224 : BitVec 32 := 0#32
  let v709 : BitVec 1 := Scalar.cmpi .ne v708 c0_i32_224
  v709

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1x96x576 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x96x96 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x96x96 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x96x96 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S6x6x96 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x96 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S2x96 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S2x192 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x192 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S192x192 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x192 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S192x8 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x1 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 2 → Memref sig .tc .vmem S1x768x96 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![false, true]

abbrev stage0_14 : Fin 1 → Memref sig .tc .vmem S768x1 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 2 → Memref sig .tc .vmem S1x768x576 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, false]
-- ==== KernelIdeal.lean ====
variable {F : FTy → Type} [FloatOps F] [Named F]
def κ : String → Option EReal := fun
  | "inv_sqrt_two" => some (((Real.sqrt 2)⁻¹ : ℝ) : EReal)
  | _ => none
-- ==== ReferenceIdeal.lean ====
abbrev S4x768x576 : Shape := ⟨3, ![4, 768, 576]⟩
abbrev S768x96x1x1 : Shape := ⟨4, ![768, 96, 1, 1]⟩
abbrev S96x1x6x6 : Shape := ⟨4, ![96, 1, 6, 6]⟩
abbrev S96 : Shape := ⟨1, ![96]⟩
abbrev S2x96x1x1 : Shape := ⟨4, ![2, 96, 1, 1]⟩
abbrev S192x2 : Shape := ⟨2, ![192, 2]⟩
abbrev S192 : Shape := ⟨1, ![192]⟩
abbrev S192x192 : Shape := ⟨2, ![192, 192]⟩
abbrev S1x192 : Shape := ⟨2, ![1, 192]⟩
abbrev S1 : Shape := ⟨1, ![1]⟩
abbrev S768x768x1x1 : Shape := ⟨4, ![768, 768, 1, 1]⟩
abbrev S768 : Shape := ⟨1, ![768]⟩
abbrev S4x8x96x576 : Shape := ⟨4, ![4, 8, 96, 576]⟩
abbrev S768x96 : Shape := ⟨2, ![768, 96]⟩
abbrev S8x96x96 : Shape := ⟨3, ![8, 96, 96]⟩
abbrev S8x4x576x96 : Shape := ⟨4, ![8, 4, 576, 96]⟩
abbrev S4x8x96x24x24 : Shape := ⟨5, ![4, 8, 96, 24, 24]⟩
abbrev S_ : Shape := ⟨0, ![]⟩
abbrev S4x8x96x26x26 : Shape := ⟨5, ![4, 8, 96, 26, 26]⟩
abbrev S4x8x96x6x6 : Shape := ⟨5, ![4, 8, 96, 6, 6]⟩
abbrev S96x1x1x1 : Shape := ⟨4, ![96, 1, 1, 1]⟩
abbrev S1x1x96x1x1 : Shape := ⟨5, ![1, 1, 96, 1, 1]⟩
abbrev S4x8x96x36 : Shape := ⟨4, ![4, 8, 96, 36]⟩
abbrev S2x96 : Shape := ⟨2, ![2, 96]⟩
abbrev S4x8x36x2 : Shape := ⟨4, ![4, 8, 36, 2]⟩
abbrev S4x8x2x36 : Shape := ⟨4, ![4, 8, 2, 36]⟩
abbrev S6 : Shape := ⟨1, ![6]⟩
abbrev S6x6 : Shape := ⟨2, ![6, 6]⟩
abbrev S36 : Shape := ⟨1, ![36]⟩
abbrev S4x8x1x36 : Shape := ⟨4, ![4, 8, 1, 36]⟩
abbrev S4x8x36 : Shape := ⟨3, ![4, 8, 36]⟩
abbrev S1x1x36 : Shape := ⟨3, ![1, 1, 36]⟩
abbrev S4x8x36x1 : Shape := ⟨4, ![4, 8, 36, 1]⟩
abbrev S1x1x1x1 : Shape := ⟨4, ![1, 1, 1, 1]⟩
abbrev S8x4x36x96 : Shape := ⟨4, ![8, 4, 36, 96]⟩
abbrev S4x8x576x36 : Shape := ⟨4, ![4, 8, 576, 36]⟩
abbrev S24 : Shape := ⟨1, ![24]⟩
abbrev S24x24 : Shape := ⟨2, ![24, 24]⟩
abbrev S576 : Shape := ⟨1, ![576]⟩
abbrev S576x1 : Shape := ⟨2, ![576, 1]⟩
abbrev S1x1x576x1 : Shape := ⟨4, ![1, 1, 576, 1]⟩
abbrev S4x8x576x36x1 : Shape := ⟨5, ![4, 8, 576, 36, 1]⟩
abbrev S4x8x576x36x2 : Shape := ⟨5, ![4, 8, 576, 36, 2]⟩
abbrev S2x192 : Shape := ⟨2, ![2, 192]⟩
abbrev S4x8x576x36x192 : Shape := ⟨5, ![4, 8, 576, 36, 192]⟩
abbrev S1x1x1x1x192 : Shape := ⟨5, ![1, 1, 1, 1, 192]⟩
abbrev S192x1 : Shape := ⟨2, ![192, 1]⟩
abbrev S1x1x1x1x1 : Shape := ⟨5, ![1, 1, 1, 1, 1]⟩
abbrev S4x8x576 : Shape := ⟨3, ![4, 8, 576]⟩
abbrev S4x8x576x1 : Shape := ⟨4, ![4, 8, 576, 1]⟩
abbrev S768x768 : Shape := ⟨2, ![768, 768]⟩
abbrev S4x576x768 : Shape := ⟨3, ![4, 576, 768]⟩
abbrev S1x768x1 : Shape := ⟨3, ![1, 768, 1]⟩

abbrev nBuf : Space → Nat
  | .hbm => 763
  | .vmem => 0
  | .smem => 0
  | _ => 0

abbrev hbmTy0_0 (i : Nat) : BufTy := match i % 128 with
  | 0 => ⟨S4x768x576, .f32⟩
  | 1 => ⟨S768x96x1x1, .f32⟩
  | 2 => ⟨S768x96x1x1, .f32⟩
  | 3 => ⟨S768x96x1x1, .f32⟩
  | 4 => ⟨S96x1x6x6, .f32⟩
  | 5 => ⟨S96, .f32⟩
  | 6 => ⟨S2x96x1x1, .f32⟩
  | 7 => ⟨S192x2, .f32⟩
  | 8 => ⟨S192, .f32⟩
  | 9 => ⟨S192x192, .f32⟩
  | 10 => ⟨S192, .f32⟩
  | 11 => ⟨S1x192, .f32⟩
  | 12 => ⟨S1, .f32⟩
  | 13 => ⟨S768x768x1x1, .f32⟩
  | 14 => ⟨S768, .f32⟩
  | 15 => ⟨S4x8x96x576, .f32⟩
  | 16 => ⟨S768x96, .f32⟩
  | 17 => ⟨S8x96x96, .f32⟩
  | 18 => ⟨S8x4x576x96, .f32⟩
  | 19 => ⟨S4x8x96x576, .f32⟩
  | 20 => ⟨S4x8x96x24x24, .f32⟩
  | 21 => ⟨S_, .i32⟩
  | 22 => ⟨S_, .f32⟩
  | 23 => ⟨S4x8x96x26x26, .f32⟩
  | 24 => ⟨S4x8x96x6x6, .f32⟩
  | 25 => ⟨S96x1x1x1, .f32⟩
  | 26 => ⟨S96, .f32⟩
  | 27 => ⟨S1x1x96x1x1, .f32⟩
  | 28 => ⟨S4x8x96x6x6, .f32⟩
  | 29 => ⟨S4x8x96x6x6, .f32⟩
  | 30 => ⟨S4x8x96x6x6, .f32⟩
  | 31 => ⟨S96x1x1x1, .f32⟩
  | 32 => ⟨S96, .f32⟩
  | 33 => ⟨S1x1x96x1x1, .f32⟩
  | 34 => ⟨S4x8x96x6x6, .f32⟩
  | 35 => ⟨S4x8x96x6x6, .f32⟩
  | 36 => ⟨S4x8x96x6x6, .f32⟩
  | 37 => ⟨S96x1x1x1, .f32⟩
  | 38 => ⟨S96, .f32⟩
  | 39 => ⟨S1x1x96x1x1, .f32⟩
  | 40 => ⟨S4x8x96x6x6, .f32⟩
  | 41 => ⟨S4x8x96x6x6, .f32⟩
  | 42 => ⟨S4x8x96x6x6, .f32⟩
  | 43 => ⟨S96x1x1x1, .f32⟩
  | 44 => ⟨S96, .f32⟩
  | 45 => ⟨S1x1x96x1x1, .f32⟩
  | 46 => ⟨S4x8x96x6x6, .f32⟩
  | 47 => ⟨S4x8x96x6x6, .f32⟩
  | 48 => ⟨S4x8x96x6x6, .f32⟩
  | 49 => ⟨S96x1x1x1, .f32⟩
  | 50 => ⟨S96, .f32⟩
  | 51 => ⟨S1x1x96x1x1, .f32⟩
  | 52 => ⟨S4x8x96x6x6, .f32⟩
  | 53 => ⟨S4x8x96x6x6, .f32⟩
  | 54 => ⟨S4x8x96x6x6, .f32⟩
  | 55 => ⟨S96x1x1x1, .f32⟩
  | 56 => ⟨S96, .f32⟩
  | 57 => ⟨S1x1x96x1x1, .f32⟩
  | 58 => ⟨S4x8x96x6x6, .f32⟩
  | 59 => ⟨S4x8x96x6x6, .f32⟩
  | 60 => ⟨S4x8x96x6x6, .f32⟩
  | 61 => ⟨S96x1x1x1, .f32⟩
  | 62 => ⟨S96, .f32⟩
  | 63 => ⟨S1x1x96x1x1, .f32⟩
  | 64 => ⟨S4x8x96x6x6, .f32⟩
  | 65 => ⟨S4x8x96x6x6, .f32⟩
  | 66 => ⟨S4x8x96x6x6, .f32⟩
  | 67 => ⟨S96x1x1x1, .f32⟩
  | 68 => ⟨S96, .f32⟩
  | 69 => ⟨S1x1x96x1x1, .f32⟩
  | 70 => ⟨S4x8x96x6x6, .f32⟩
  | 71 => ⟨S4x8x96x6x6, .f32⟩
  | 72 => ⟨S4x8x96x6x6, .f32⟩
  | 73 => ⟨S96x1x1x1, .f32⟩
  | 74 => ⟨S96, .f32⟩
  | 75 => ⟨S1x1x96x1x1, .f32⟩
  | 76 => ⟨S4x8x96x6x6, .f32⟩
  | 77 => ⟨S4x8x96x6x6, .f32⟩
  | 78 => ⟨S4x8x96x6x6, .f32⟩
  | 79 => ⟨S96x1x1x1, .f32⟩
  | 80 => ⟨S96, .f32⟩
  | 81 => ⟨S1x1x96x1x1, .f32⟩
  | 82 => ⟨S4x8x96x6x6, .f32⟩
  | 83 => ⟨S4x8x96x6x6, .f32⟩
  | 84 => ⟨S4x8x96x6x6, .f32⟩
  | 85 => ⟨S96x1x1x1, .f32⟩
  | 86 => ⟨S96, .f32⟩
  | 87 => ⟨S1x1x96x1x1, .f32⟩
  | 88 => ⟨S4x8x96x6x6, .f32⟩
  | 89 => ⟨S4x8x96x6x6, .f32⟩
  | 90 => ⟨S4x8x96x6x6, .f32⟩
  | 91 => ⟨S96x1x1x1, .f32⟩
  | 92 => ⟨S96, .f32⟩
  | 93 => ⟨S1x1x96x1x1, .f32⟩
  | 94 => ⟨S4x8x96x6x6, .f32⟩
  | 95 => ⟨S4x8x96x6x6, .f32⟩
  | 96 => ⟨S4x8x96x6x6, .f32⟩
  | 97 => ⟨S96x1x1x1, .f32⟩
  | 98 => ⟨S96, .f32⟩
  | 99 => ⟨S1x1x96x1x1, .f32⟩
  | 100 => ⟨S4x8x96x6x6, .f32⟩
  | 101 => ⟨S4x8x96x6x6, .f32⟩
  | 102 => ⟨S4x8x96x6x6, .f32⟩
  | 103 => ⟨S96x1x1x1, .f32⟩
  | 104 => ⟨S96, .f32⟩
  | 105 => ⟨S1x1x96x1x1, .f32⟩
  | 106 => ⟨S4x8x96x6x6, .f32⟩
  | 107 => ⟨S4x8x96x6x6, .f32⟩
  | 108 => ⟨S4x8x96x6x6, .f32⟩
  | 109 => ⟨S96x1x1x1, .f32⟩
  | 110 => ⟨S96, .f32⟩
  | 111 => ⟨S1x1x96x1x1, .f32⟩
  | 112 => ⟨S4x8x96x6x6, .f32⟩
  | 113 => ⟨S4x8x96x6x6, .f32⟩
  | 114 => ⟨S4x8x96x6x6, .f32⟩
  | 115 => ⟨S96x1x1x1, .f32⟩
  | 116 => ⟨S96, .f32⟩
  | 117 => ⟨S1x1x96x1x1, .f32⟩
  | 118 => ⟨S4x8x96x6x6, .f32⟩
  | 119 => ⟨S4x8x96x6x6, .f32⟩
  | 120 => ⟨S4x8x96x6x6, .f32⟩
  | 121 => ⟨S96x1x1x1, .f32⟩
  | 122 => ⟨S96, .f32⟩
  | 123 => ⟨S1x1x96x1x1, .f32⟩
  | 124 => ⟨S4x8x96x6x6, .f32⟩
  | 125 => ⟨S4x8x96x6x6, .f32⟩
  | 126 => ⟨S4x8x96x6x6, .f32⟩
  | 127 => ⟨S96x1x1x1, .f32⟩
  | _ => ⟨S4x768x576, .f32⟩

abbrev hbmTy0_1 (i : Nat) : BufTy := match i % 128 with
  | 0 => ⟨S96, .f32⟩
  | 1 => ⟨S1x1x96x1x1, .f32⟩
  | 2 => ⟨S4x8x96x6x6, .f32⟩
  | 3 => ⟨S4x8x96x6x6, .f32⟩
  | 4 => ⟨S4x8x96x6x6, .f32⟩
  | 5 => ⟨S96x1x1x1, .f32⟩
  | 6 => ⟨S96, .f32⟩
  | 7 => ⟨S1x1x96x1x1, .f32⟩
  | 8 => ⟨S4x8x96x6x6, .f32⟩
  | 9 => ⟨S4x8x96x6x6, .f32⟩
  | 10 => ⟨S4x8x96x6x6, .f32⟩
  | 11 => ⟨S96x1x1x1, .f32⟩
  | 12 => ⟨S96, .f32⟩
  | 13 => ⟨S1x1x96x1x1, .f32⟩
  | 14 => ⟨S4x8x96x6x6, .f32⟩
  | 15 => ⟨S4x8x96x6x6, .f32⟩
  | 16 => ⟨S4x8x96x6x6, .f32⟩
  | 17 => ⟨S96x1x1x1, .f32⟩
  | 18 => ⟨S96, .f32⟩
  | 19 => ⟨S1x1x96x1x1, .f32⟩
  | 20 => ⟨S4x8x96x6x6, .f32⟩
  | 21 => ⟨S4x8x96x6x6, .f32⟩
  | 22 => ⟨S4x8x96x6x6, .f32⟩
  | 23 => ⟨S96x1x1x1, .f32⟩
  | 24 => ⟨S96, .f32⟩
  | 25 => ⟨S1x1x96x1x1, .f32⟩
  | 26 => ⟨S4x8x96x6x6, .f32⟩
  | 27 => ⟨S4x8x96x6x6, .f32⟩
  | 28 => ⟨S4x8x96x6x6, .f32⟩
  | 29 => ⟨S96x1x1x1, .f32⟩
  | 30 => ⟨S96, .f32⟩
  | 31 => ⟨S1x1x96x1x1, .f32⟩
  | 32 => ⟨S4x8x96x6x6, .f32⟩
  | 33 => ⟨S4x8x96x6x6, .f32⟩
  | 34 => ⟨S4x8x96x6x6, .f32⟩
  | 35 => ⟨S96x1x1x1, .f32⟩
  | 36 => ⟨S96, .f32⟩
  | 37 => ⟨S1x1x96x1x1, .f32⟩
  | 38 => ⟨S4x8x96x6x6, .f32⟩
  | 39 => ⟨S4x8x96x6x6, .f32⟩
  | 40 => ⟨S4x8x96x6x6, .f32⟩
  | 41 => ⟨S96x1x1x1, .f32⟩
  | 42 => ⟨S96, .f32⟩
  | 43 => ⟨S1x1x96x1x1, .f32⟩
  | 44 => ⟨S4x8x96x6x6, .f32⟩
  | 45 => ⟨S4x8x96x6x6, .f32⟩
  | 46 => ⟨S4x8x96x6x6, .f32⟩
  | 47 => ⟨S96x1x1x1, .f32⟩
  | 48 => ⟨S96, .f32⟩
  | 49 => ⟨S1x1x96x1x1, .f32⟩
  | 50 => ⟨S4x8x96x6x6, .f32⟩
  | 51 => ⟨S4x8x96x6x6, .f32⟩
  | 52 => ⟨S4x8x96x6x6, .f32⟩
  | 53 => ⟨S96x1x1x1, .f32⟩
  | 54 => ⟨S96, .f32⟩
  | 55 => ⟨S1x1x96x1x1, .f32⟩
  | 56 => ⟨S4x8x96x6x6, .f32⟩
  | 57 => ⟨S4x8x96x6x6, .f32⟩
  | 58 => ⟨S4x8x96x6x6, .f32⟩
  | 59 => ⟨S96x1x1x1, .f32⟩
  | 60 => ⟨S96, .f32⟩
  | 61 => ⟨S1x1x96x1x1, .f32⟩
  | 62 => ⟨S4x8x96x6x6, .f32⟩
  | 63 => ⟨S4x8x96x6x6, .f32⟩
  | 64 => ⟨S4x8x96x6x6, .f32⟩
  | 65 => ⟨S96x1x1x1, .f32⟩
  | 66 => ⟨S96, .f32⟩
  | 67 => ⟨S1x1x96x1x1, .f32⟩
  | 68 => ⟨S4x8x96x6x6, .f32⟩
  | 69 => ⟨S4x8x96x6x6, .f32⟩
  | 70 => ⟨S4x8x96x6x6, .f32⟩
  | 71 => ⟨S96x1x1x1, .f32⟩
  | 72 => ⟨S96, .f32⟩
  | 73 => ⟨S1x1x96x1x1, .f32⟩
  | 74 => ⟨S4x8x96x6x6, .f32⟩
  | 75 => ⟨S4x8x96x6x6, .f32⟩
  | 76 => ⟨S4x8x96x6x6, .f32⟩
  | 77 => ⟨S96x1x1x1, .f32⟩
  | 78 => ⟨S96, .f32⟩
  | 79 => ⟨S1x1x96x1x1, .f32⟩
  | 80 => ⟨S4x8x96x6x6, .f32⟩
  | 81 => ⟨S4x8x96x6x6, .f32⟩
  | 82 => ⟨S4x8x96x6x6, .f32⟩
  | 83 => ⟨S96x1x1x1, .f32⟩
  | 84 => ⟨S96, .f32⟩
  | 85 => ⟨S1x1x96x1x1, .f32⟩
  | 86 => ⟨S4x8x96x6x6, .f32⟩
  | 87 => ⟨S4x8x96x6x6, .f32⟩
  | 88 => ⟨S4x8x96x6x6, .f32⟩
  | 89 => ⟨S96x1x1x1, .f32⟩
  | 90 => ⟨S96, .f32⟩
  | 91 => ⟨S1x1x96x1x1, .f32⟩
  | 92 => ⟨S4x8x96x6x6, .f32⟩
  | 93 => ⟨S4x8x96x6x6, .f32⟩
  | 94 => ⟨S4x8x96x6x6, .f32⟩
  | 95 => ⟨S96x1x1x1, .f32⟩
  | 96 => ⟨S96, .f32⟩
  | 97 => ⟨S1x1x96x1x1, .f32⟩
  | 98 => ⟨S4x8x96x6x6, .f32⟩
  | 99 => ⟨S4x8x96x6x6, .f32⟩
  | 100 => ⟨S4x8x96x6x6, .f32⟩
  | 101 => ⟨S96x1x1x1, .f32⟩
  | 102 => ⟨S96, .f32⟩
  | 103 => ⟨S1x1x96x1x1, .f32⟩
  | 104 => ⟨S4x8x96x6x6, .f32⟩
  | 105 => ⟨S4x8x96x6x6, .f32⟩
  | 106 => ⟨S4x8x96x6x6, .f32⟩
  | 107 => ⟨S96x1x1x1, .f32⟩
  | 108 => ⟨S96, .f32⟩
  | 109 => ⟨S1x1x96x1x1, .f32⟩
  | 110 => ⟨S4x8x96x6x6, .f32⟩
  | 111 => ⟨S4x8x96x6x6, .f32⟩
  | 112 => ⟨S4x8x96x6x6, .f32⟩
  | 113 => ⟨S4x8x96x6x6, .f32⟩
  | 114 => ⟨S4x8x96x6x6, .f32⟩
  | 115 => ⟨S4x8x96x6x6, .f32⟩
  | 116 => ⟨S4x8x96x6x6, .f32⟩
  | 117 => ⟨S4x8x96x6x6, .f32⟩
  | 118 => ⟨S4x8x96x6x6, .f32⟩
  | 119 => ⟨S4x8x96x6x6, .f32⟩
  | 120 => ⟨S4x8x96x6x6, .f32⟩
  | 121 => ⟨S4x8x96x6x6, .f32⟩
  | 122 => ⟨S4x8x96x6x6, .f32⟩
  | 123 => ⟨S4x8x96x6x6, .f32⟩
  | 124 => ⟨S4x8x96x6x6, .f32⟩
  | 125 => ⟨S4x8x96x6x6, .f32⟩
  | 126 => ⟨S4x8x96x6x6, .f32⟩
  | 127 => ⟨S4x8x96x6x6, .f32⟩
  | _ => ⟨S4x768x576, .f32⟩

abbrev hbmTy0_2 (i : Nat) : BufTy := match i % 128 with
  | 0 => ⟨S4x8x96x6x6, .f32⟩
  | 1 => ⟨S4x8x96x6x6, .f32⟩
  | 2 => ⟨S4x8x96x6x6, .f32⟩
  | 3 => ⟨S4x8x96x6x6, .f32⟩
  | 4 => ⟨S4x8x96x6x6, .f32⟩
  | 5 => ⟨S4x8x96x6x6, .f32⟩
  | 6 => ⟨S4x8x96x6x6, .f32⟩
  | 7 => ⟨S4x8x96x6x6, .f32⟩
  | 8 => ⟨S4x8x96x6x6, .f32⟩
  | 9 => ⟨S4x8x96x6x6, .f32⟩
  | 10 => ⟨S4x8x96x6x6, .f32⟩
  | 11 => ⟨S4x8x96x6x6, .f32⟩
  | 12 => ⟨S4x8x96x6x6, .f32⟩
  | 13 => ⟨S4x8x96x6x6, .f32⟩
  | 14 => ⟨S4x8x96x6x6, .f32⟩
  | 15 => ⟨S4x8x96x6x6, .f32⟩
  | 16 => ⟨S4x8x96x6x6, .f32⟩
  | 17 => ⟨S4x8x96x6x6, .f32⟩
  | 18 => ⟨S4x8x96x6x6, .f32⟩
  | 19 => ⟨S1x1x96x1x1, .f32⟩
  | 20 => ⟨S4x8x96x6x6, .f32⟩
  | 21 => ⟨S4x8x96x6x6, .f32⟩
  | 22 => ⟨S4x8x96x36, .f32⟩
  | 23 => ⟨S_, .f32⟩
  | 24 => ⟨S4x8x96x36, .f32⟩
  | 25 => ⟨S4x8x96x36, .f32⟩
  | 26 => ⟨S_, .f32⟩
  | 27 => ⟨S_, .f32⟩
  | 28 => ⟨S4x8x96x36, .f32⟩
  | 29 => ⟨S4x8x96x36, .f32⟩
  | 30 => ⟨S4x8x96x36, .f32⟩
  | 31 => ⟨S_, .f32⟩
  | 32 => ⟨S4x8x96x36, .f32⟩
  | 33 => ⟨S4x8x96x36, .f32⟩
  | 34 => ⟨S4x8x96x36, .f32⟩
  | 35 => ⟨S2x96, .f32⟩
  | 36 => ⟨S4x8x36x2, .f32⟩
  | 37 => ⟨S4x8x2x36, .f32⟩
  | 38 => ⟨S4x8x2x36, .f32⟩
  | 39 => ⟨S_, .f32⟩
  | 40 => ⟨S4x8x2x36, .f32⟩
  | 41 => ⟨S4x8x2x36, .f32⟩
  | 42 => ⟨S6, .i32⟩
  | 43 => ⟨S6, .i32⟩
  | 44 => ⟨S6x6, .i32⟩
  | 45 => ⟨S6x6, .i32⟩
  | 46 => ⟨S36, .i32⟩
  | 47 => ⟨S36, .f32⟩
  | 48 => ⟨S4x8x1x36, .f32⟩
  | 49 => ⟨S4x8x36, .f32⟩
  | 50 => ⟨S1x1x36, .f32⟩
  | 51 => ⟨S4x8x36, .f32⟩
  | 52 => ⟨S4x8x36, .f32⟩
  | 53 => ⟨S_, .f32⟩
  | 54 => ⟨S4x8x36, .f32⟩
  | 55 => ⟨S4x8x36, .f32⟩
  | 56 => ⟨S_, .f32⟩
  | 57 => ⟨S4x8x36, .f32⟩
  | 58 => ⟨S4x8x36, .f32⟩
  | 59 => ⟨S_, .f32⟩
  | 60 => ⟨S4x8x36, .f32⟩
  | 61 => ⟨S4x8x36, .f32⟩
  | 62 => ⟨S36, .i32⟩
  | 63 => ⟨S36, .f32⟩
  | 64 => ⟨S4x8x1x36, .f32⟩
  | 65 => ⟨S4x8x36, .f32⟩
  | 66 => ⟨S1x1x36, .f32⟩
  | 67 => ⟨S4x8x36, .f32⟩
  | 68 => ⟨S4x8x36, .f32⟩
  | 69 => ⟨S_, .f32⟩
  | 70 => ⟨S4x8x36, .f32⟩
  | 71 => ⟨S4x8x36, .f32⟩
  | 72 => ⟨S_, .f32⟩
  | 73 => ⟨S4x8x36, .f32⟩
  | 74 => ⟨S4x8x36, .f32⟩
  | 75 => ⟨S_, .f32⟩
  | 76 => ⟨S4x8x36, .f32⟩
  | 77 => ⟨S4x8x36, .f32⟩
  | 78 => ⟨S_, .f32⟩
  | 79 => ⟨S4x8x36, .f32⟩
  | 80 => ⟨S4x8x36, .f32⟩
  | 81 => ⟨S_, .f32⟩
  | 82 => ⟨S4x8x36, .f32⟩
  | 83 => ⟨S4x8x36, .f32⟩
  | 84 => ⟨S_, .f32⟩
  | 85 => ⟨S4x8x36, .f32⟩
  | 86 => ⟨S4x8x36, .f32⟩
  | 87 => ⟨S_, .f32⟩
  | 88 => ⟨S4x8x36, .f32⟩
  | 89 => ⟨S4x8x36, .f32⟩
  | 90 => ⟨S_, .f32⟩
  | 91 => ⟨S4x8x36, .f32⟩
  | 92 => ⟨S4x8x36, .f32⟩
  | 93 => ⟨S_, .f32⟩
  | 94 => ⟨S4x8x36, .f32⟩
  | 95 => ⟨S4x8x36, .f32⟩
  | 96 => ⟨S_, .f32⟩
  | 97 => ⟨S4x8x36, .f32⟩
  | 98 => ⟨S4x8x36, .f32⟩
  | 99 => ⟨S_, .f32⟩
  | 100 => ⟨S4x8x36, .f32⟩
  | 101 => ⟨S4x8x36, .f32⟩
  | 102 => ⟨S4x8x36, .f32⟩
  | 103 => ⟨S4x8x36, .f32⟩
  | 104 => ⟨S_, .f32⟩
  | 105 => ⟨S4x8x36, .f32⟩
  | 106 => ⟨S4x8x36, .f32⟩
  | 107 => ⟨S_, .f32⟩
  | 108 => ⟨S4x8x36, .f32⟩
  | 109 => ⟨S4x8x36, .f32⟩
  | 110 => ⟨S4x8x36, .f32⟩
  | 111 => ⟨S_, .f32⟩
  | 112 => ⟨S4x8x36, .f32⟩
  | 113 => ⟨S4x8x36, .f32⟩
  | 114 => ⟨S4x8x36, .f32⟩
  | 115 => ⟨S_, .f32⟩
  | 116 => ⟨S4x8x36, .f32⟩
  | 117 => ⟨S4x8x36, .f32⟩
  | 118 => ⟨S_, .f32⟩
  | 119 => ⟨S4x8x36, .f32⟩
  | 120 => ⟨S4x8x36, .i1⟩
  | 121 => ⟨S_, .f32⟩
  | 122 => ⟨S4x8x36, .f32⟩
  | 123 => ⟨S4x8x36, .i1⟩
  | 124 => ⟨S4x8x36, .i1⟩
  | 125 => ⟨S_, .f32⟩
  | 126 => ⟨S4x8x36, .f32⟩
  | 127 => ⟨S4x8x36, .i1⟩
  | _ => ⟨S4x768x576, .f32⟩

abbrev hbmTy0_3 (i : Nat) : BufTy := match i % 128 with
  | 0 => ⟨S4x8x36, .i1⟩
  | 1 => ⟨S_, .f32⟩
  | 2 => ⟨S4x8x36, .f32⟩
  | 3 => ⟨S4x8x36, .i1⟩
  | 4 => ⟨S4x8x36, .i1⟩
  | 5 => ⟨S_, .i32⟩
  | 6 => ⟨S_, .i32⟩
  | 7 => ⟨S_, .f32⟩
  | 8 => ⟨S4x8x36, .f32⟩
  | 9 => ⟨S4x8x36, .f32⟩
  | 10 => ⟨S_, .f32⟩
  | 11 => ⟨S4x8x36, .f32⟩
  | 12 => ⟨S4x8x36, .f32⟩
  | 13 => ⟨S4x8x36, .i32⟩
  | 14 => ⟨S_, .i32⟩
  | 15 => ⟨S_, .i32⟩
  | 16 => ⟨S_, .f32⟩
  | 17 => ⟨S4x8x36, .f32⟩
  | 18 => ⟨S4x8x36, .f32⟩
  | 19 => ⟨S_, .f32⟩
  | 20 => ⟨S4x8x36, .f32⟩
  | 21 => ⟨S4x8x36, .f32⟩
  | 22 => ⟨S4x8x36, .i32⟩
  | 23 => ⟨S_, .i32⟩
  | 24 => ⟨S4x8x36, .i32⟩
  | 25 => ⟨S4x8x36, .i32⟩
  | 26 => ⟨S4x8x36, .i32⟩
  | 27 => ⟨S4x8x1x36, .i32⟩
  | 28 => ⟨S_, .i32⟩
  | 29 => ⟨S4x8x1x36, .i32⟩
  | 30 => ⟨S4x8x1x36, .i1⟩
  | 31 => ⟨S_, .i32⟩
  | 32 => ⟨S4x8x1x36, .i32⟩
  | 33 => ⟨S4x8x1x36, .i32⟩
  | 34 => ⟨S4x8x1x36, .i32⟩
  | 35 => ⟨S4x8x36x1, .i32⟩
  | 36 => ⟨S1, .i32⟩
  | 37 => ⟨S_, .i32⟩
  | 38 => ⟨S4x8x36x1, .i32⟩
  | 39 => ⟨S4x8x36x1, .i1⟩
  | 40 => ⟨S1x1x1x1, .i32⟩
  | 41 => ⟨S4x8x36x1, .i32⟩
  | 42 => ⟨S4x8x36x1, .i1⟩
  | 43 => ⟨S4x8x36x1, .i1⟩
  | 44 => ⟨S_, .i1⟩
  | 45 => ⟨S4x8x36, .i1⟩
  | 46 => ⟨S4x8x96x36, .f32⟩
  | 47 => ⟨S4x8x96x36, .i1⟩
  | 48 => ⟨S_, .f32⟩
  | 49 => ⟨S4x8x96x36, .f32⟩
  | 50 => ⟨S4x8x96x36, .f32⟩
  | 51 => ⟨S4x8x1x36, .i1⟩
  | 52 => ⟨S4x8x1x36, .f32⟩
  | 53 => ⟨S4x8x96x36, .f32⟩
  | 54 => ⟨S4x8x96x36, .f32⟩
  | 55 => ⟨S4x8x36, .f32⟩
  | 56 => ⟨S4x8x1x36, .f32⟩
  | 57 => ⟨S4x8x96x36, .f32⟩
  | 58 => ⟨S4x8x96x36, .f32⟩
  | 59 => ⟨S_, .f32⟩
  | 60 => ⟨S4x8x36, .f32⟩
  | 61 => ⟨S4x8x36, .i1⟩
  | 62 => ⟨S_, .f32⟩
  | 63 => ⟨S4x8x36, .f32⟩
  | 64 => ⟨S4x8x36, .i1⟩
  | 65 => ⟨S4x8x36, .i1⟩
  | 66 => ⟨S_, .f32⟩
  | 67 => ⟨S4x8x36, .f32⟩
  | 68 => ⟨S4x8x36, .i1⟩
  | 69 => ⟨S4x8x36, .i1⟩
  | 70 => ⟨S_, .f32⟩
  | 71 => ⟨S4x8x36, .f32⟩
  | 72 => ⟨S4x8x36, .i1⟩
  | 73 => ⟨S4x8x36, .i1⟩
  | 74 => ⟨S_, .i32⟩
  | 75 => ⟨S_, .i32⟩
  | 76 => ⟨S_, .f32⟩
  | 77 => ⟨S4x8x36, .f32⟩
  | 78 => ⟨S4x8x36, .f32⟩
  | 79 => ⟨S_, .f32⟩
  | 80 => ⟨S4x8x36, .f32⟩
  | 81 => ⟨S4x8x36, .f32⟩
  | 82 => ⟨S4x8x36, .i32⟩
  | 83 => ⟨S_, .i32⟩
  | 84 => ⟨S_, .i32⟩
  | 85 => ⟨S_, .f32⟩
  | 86 => ⟨S4x8x36, .f32⟩
  | 87 => ⟨S4x8x36, .f32⟩
  | 88 => ⟨S_, .f32⟩
  | 89 => ⟨S4x8x36, .f32⟩
  | 90 => ⟨S4x8x36, .f32⟩
  | 91 => ⟨S4x8x36, .i32⟩
  | 92 => ⟨S_, .i32⟩
  | 93 => ⟨S4x8x36, .i32⟩
  | 94 => ⟨S4x8x36, .i32⟩
  | 95 => ⟨S4x8x36, .i32⟩
  | 96 => ⟨S4x8x1x36, .i32⟩
  | 97 => ⟨S_, .i32⟩
  | 98 => ⟨S4x8x1x36, .i32⟩
  | 99 => ⟨S4x8x1x36, .i1⟩
  | 100 => ⟨S_, .i32⟩
  | 101 => ⟨S4x8x1x36, .i32⟩
  | 102 => ⟨S4x8x1x36, .i32⟩
  | 103 => ⟨S4x8x1x36, .i32⟩
  | 104 => ⟨S4x8x36x1, .i32⟩
  | 105 => ⟨S1, .i32⟩
  | 106 => ⟨S_, .i32⟩
  | 107 => ⟨S4x8x36x1, .i32⟩
  | 108 => ⟨S4x8x36x1, .i1⟩
  | 109 => ⟨S1x1x1x1, .i32⟩
  | 110 => ⟨S4x8x36x1, .i32⟩
  | 111 => ⟨S4x8x36x1, .i1⟩
  | 112 => ⟨S4x8x36x1, .i1⟩
  | 113 => ⟨S_, .i1⟩
  | 114 => ⟨S4x8x36, .i1⟩
  | 115 => ⟨S4x8x96x36, .f32⟩
  | 116 => ⟨S4x8x96x36, .i1⟩
  | 117 => ⟨S_, .f32⟩
  | 118 => ⟨S4x8x96x36, .f32⟩
  | 119 => ⟨S4x8x96x36, .f32⟩
  | 120 => ⟨S4x8x1x36, .i1⟩
  | 121 => ⟨S4x8x1x36, .f32⟩
  | 122 => ⟨S4x8x96x36, .f32⟩
  | 123 => ⟨S4x8x96x36, .f32⟩
  | 124 => ⟨S4x8x36, .f32⟩
  | 125 => ⟨S4x8x1x36, .f32⟩
  | 126 => ⟨S4x8x96x36, .f32⟩
  | 127 => ⟨S4x8x96x36, .f32⟩
  | _ => ⟨S4x768x576, .f32⟩

abbrev hbmTy0_4 (i : Nat) : BufTy := match i % 128 with
  | 0 => ⟨S4x8x96x36, .f32⟩
  | 1 => ⟨S_, .f32⟩
  | 2 => ⟨S4x8x36, .f32⟩
  | 3 => ⟨S4x8x36, .i1⟩
  | 4 => ⟨S_, .f32⟩
  | 5 => ⟨S4x8x36, .f32⟩
  | 6 => ⟨S4x8x36, .i1⟩
  | 7 => ⟨S4x8x36, .i1⟩
  | 8 => ⟨S_, .f32⟩
  | 9 => ⟨S4x8x36, .f32⟩
  | 10 => ⟨S4x8x36, .i1⟩
  | 11 => ⟨S4x8x36, .i1⟩
  | 12 => ⟨S_, .f32⟩
  | 13 => ⟨S4x8x36, .f32⟩
  | 14 => ⟨S4x8x36, .i1⟩
  | 15 => ⟨S4x8x36, .i1⟩
  | 16 => ⟨S_, .i32⟩
  | 17 => ⟨S_, .i32⟩
  | 18 => ⟨S_, .f32⟩
  | 19 => ⟨S4x8x36, .f32⟩
  | 20 => ⟨S4x8x36, .f32⟩
  | 21 => ⟨S_, .f32⟩
  | 22 => ⟨S4x8x36, .f32⟩
  | 23 => ⟨S4x8x36, .f32⟩
  | 24 => ⟨S4x8x36, .i32⟩
  | 25 => ⟨S_, .i32⟩
  | 26 => ⟨S_, .i32⟩
  | 27 => ⟨S_, .f32⟩
  | 28 => ⟨S4x8x36, .f32⟩
  | 29 => ⟨S4x8x36, .f32⟩
  | 30 => ⟨S_, .f32⟩
  | 31 => ⟨S4x8x36, .f32⟩
  | 32 => ⟨S4x8x36, .f32⟩
  | 33 => ⟨S4x8x36, .i32⟩
  | 34 => ⟨S_, .i32⟩
  | 35 => ⟨S4x8x36, .i32⟩
  | 36 => ⟨S4x8x36, .i32⟩
  | 37 => ⟨S4x8x36, .i32⟩
  | 38 => ⟨S4x8x1x36, .i32⟩
  | 39 => ⟨S_, .i32⟩
  | 40 => ⟨S4x8x1x36, .i32⟩
  | 41 => ⟨S4x8x1x36, .i1⟩
  | 42 => ⟨S_, .i32⟩
  | 43 => ⟨S4x8x1x36, .i32⟩
  | 44 => ⟨S4x8x1x36, .i32⟩
  | 45 => ⟨S4x8x1x36, .i32⟩
  | 46 => ⟨S4x8x36x1, .i32⟩
  | 47 => ⟨S1, .i32⟩
  | 48 => ⟨S_, .i32⟩
  | 49 => ⟨S4x8x36x1, .i32⟩
  | 50 => ⟨S4x8x36x1, .i1⟩
  | 51 => ⟨S1x1x1x1, .i32⟩
  | 52 => ⟨S4x8x36x1, .i32⟩
  | 53 => ⟨S4x8x36x1, .i1⟩
  | 54 => ⟨S4x8x36x1, .i1⟩
  | 55 => ⟨S_, .i1⟩
  | 56 => ⟨S4x8x36, .i1⟩
  | 57 => ⟨S4x8x96x36, .f32⟩
  | 58 => ⟨S4x8x96x36, .i1⟩
  | 59 => ⟨S_, .f32⟩
  | 60 => ⟨S4x8x96x36, .f32⟩
  | 61 => ⟨S4x8x96x36, .f32⟩
  | 62 => ⟨S4x8x1x36, .i1⟩
  | 63 => ⟨S4x8x1x36, .f32⟩
  | 64 => ⟨S4x8x96x36, .f32⟩
  | 65 => ⟨S4x8x96x36, .f32⟩
  | 66 => ⟨S4x8x36, .f32⟩
  | 67 => ⟨S4x8x1x36, .f32⟩
  | 68 => ⟨S4x8x96x36, .f32⟩
  | 69 => ⟨S4x8x96x36, .f32⟩
  | 70 => ⟨S4x8x96x36, .f32⟩
  | 71 => ⟨S_, .f32⟩
  | 72 => ⟨S4x8x36, .f32⟩
  | 73 => ⟨S4x8x36, .i1⟩
  | 74 => ⟨S_, .f32⟩
  | 75 => ⟨S4x8x36, .f32⟩
  | 76 => ⟨S4x8x36, .i1⟩
  | 77 => ⟨S4x8x36, .i1⟩
  | 78 => ⟨S_, .f32⟩
  | 79 => ⟨S4x8x36, .f32⟩
  | 80 => ⟨S4x8x36, .i1⟩
  | 81 => ⟨S4x8x36, .i1⟩
  | 82 => ⟨S_, .f32⟩
  | 83 => ⟨S4x8x36, .f32⟩
  | 84 => ⟨S4x8x36, .i1⟩
  | 85 => ⟨S4x8x36, .i1⟩
  | 86 => ⟨S_, .i32⟩
  | 87 => ⟨S_, .i32⟩
  | 88 => ⟨S_, .f32⟩
  | 89 => ⟨S4x8x36, .f32⟩
  | 90 => ⟨S4x8x36, .f32⟩
  | 91 => ⟨S_, .f32⟩
  | 92 => ⟨S4x8x36, .f32⟩
  | 93 => ⟨S4x8x36, .f32⟩
  | 94 => ⟨S4x8x36, .i32⟩
  | 95 => ⟨S_, .i32⟩
  | 96 => ⟨S_, .i32⟩
  | 97 => ⟨S_, .f32⟩
  | 98 => ⟨S4x8x36, .f32⟩
  | 99 => ⟨S4x8x36, .f32⟩
  | 100 => ⟨S_, .f32⟩
  | 101 => ⟨S4x8x36, .f32⟩
  | 102 => ⟨S4x8x36, .f32⟩
  | 103 => ⟨S4x8x36, .i32⟩
  | 104 => ⟨S_, .i32⟩
  | 105 => ⟨S4x8x36, .i32⟩
  | 106 => ⟨S4x8x36, .i32⟩
  | 107 => ⟨S4x8x36, .i32⟩
  | 108 => ⟨S4x8x1x36, .i32⟩
  | 109 => ⟨S_, .i32⟩
  | 110 => ⟨S4x8x1x36, .i32⟩
  | 111 => ⟨S4x8x1x36, .i1⟩
  | 112 => ⟨S_, .i32⟩
  | 113 => ⟨S4x8x1x36, .i32⟩
  | 114 => ⟨S4x8x1x36, .i32⟩
  | 115 => ⟨S4x8x1x36, .i32⟩
  | 116 => ⟨S4x8x36x1, .i32⟩
  | 117 => ⟨S1, .i32⟩
  | 118 => ⟨S_, .i32⟩
  | 119 => ⟨S4x8x36x1, .i32⟩
  | 120 => ⟨S4x8x36x1, .i1⟩
  | 121 => ⟨S1x1x1x1, .i32⟩
  | 122 => ⟨S4x8x36x1, .i32⟩
  | 123 => ⟨S4x8x36x1, .i1⟩
  | 124 => ⟨S4x8x36x1, .i1⟩
  | 125 => ⟨S_, .i1⟩
  | 126 => ⟨S4x8x36, .i1⟩
  | 127 => ⟨S4x8x96x36, .f32⟩
  | _ => ⟨S4x768x576, .f32⟩

abbrev hbmTy0_5 (i : Nat) : BufTy := match i % 128 with
  | 0 => ⟨S4x8x96x36, .i1⟩
  | 1 => ⟨S_, .f32⟩
  | 2 => ⟨S4x8x96x36, .f32⟩
  | 3 => ⟨S4x8x96x36, .f32⟩
  | 4 => ⟨S4x8x1x36, .i1⟩
  | 5 => ⟨S4x8x1x36, .f32⟩
  | 6 => ⟨S4x8x96x36, .f32⟩
  | 7 => ⟨S4x8x96x36, .f32⟩
  | 8 => ⟨S4x8x36, .f32⟩
  | 9 => ⟨S4x8x1x36, .f32⟩
  | 10 => ⟨S4x8x96x36, .f32⟩
  | 11 => ⟨S4x8x96x36, .f32⟩
  | 12 => ⟨S4x8x96x36, .f32⟩
  | 13 => ⟨S768x96, .f32⟩
  | 14 => ⟨S8x96x96, .f32⟩
  | 15 => ⟨S8x4x36x96, .f32⟩
  | 16 => ⟨S4x8x96x36, .f32⟩
  | 17 => ⟨S768x96, .f32⟩
  | 18 => ⟨S8x96x96, .f32⟩
  | 19 => ⟨S8x4x36x96, .f32⟩
  | 20 => ⟨S4x8x96x36, .f32⟩
  | 21 => ⟨S_, .f32⟩
  | 22 => ⟨S4x8x96x576, .f32⟩
  | 23 => ⟨S4x8x96x576, .f32⟩
  | 24 => ⟨S4x8x576x36, .f32⟩
  | 25 => ⟨S24, .i32⟩
  | 26 => ⟨S24, .i32⟩
  | 27 => ⟨S24x24, .i32⟩
  | 28 => ⟨S24x24, .i32⟩
  | 29 => ⟨S576, .i32⟩
  | 30 => ⟨S576, .f32⟩
  | 31 => ⟨S_, .f32⟩
  | 32 => ⟨S576, .f32⟩
  | 33 => ⟨S576, .f32⟩
  | 34 => ⟨S_, .f32⟩
  | 35 => ⟨S576, .f32⟩
  | 36 => ⟨S576, .f32⟩
  | 37 => ⟨S_, .f32⟩
  | 38 => ⟨S576, .f32⟩
  | 39 => ⟨S576, .f32⟩
  | 40 => ⟨S576, .i32⟩
  | 41 => ⟨S576, .f32⟩
  | 42 => ⟨S_, .f32⟩
  | 43 => ⟨S576, .f32⟩
  | 44 => ⟨S576, .f32⟩
  | 45 => ⟨S_, .f32⟩
  | 46 => ⟨S576, .f32⟩
  | 47 => ⟨S576, .f32⟩
  | 48 => ⟨S_, .f32⟩
  | 49 => ⟨S576, .f32⟩
  | 50 => ⟨S576, .f32⟩
  | 51 => ⟨S576x1, .f32⟩
  | 52 => ⟨S4x8x1x36, .f32⟩
  | 53 => ⟨S1x1x576x1, .f32⟩
  | 54 => ⟨S4x8x576x36, .f32⟩
  | 55 => ⟨S4x8x576x36, .f32⟩
  | 56 => ⟨S4x8x576x36, .f32⟩
  | 57 => ⟨S576x1, .f32⟩
  | 58 => ⟨S4x8x1x36, .f32⟩
  | 59 => ⟨S1x1x576x1, .f32⟩
  | 60 => ⟨S4x8x576x36, .f32⟩
  | 61 => ⟨S4x8x576x36, .f32⟩
  | 62 => ⟨S4x8x576x36, .f32⟩
  | 63 => ⟨S4x8x576x36x1, .f32⟩
  | 64 => ⟨S4x8x576x36x1, .f32⟩
  | 65 => ⟨S4x8x576x36x2, .f32⟩
  | 66 => ⟨S4x8x576x36x2, .f32⟩
  | 67 => ⟨S4x8x576x36x2, .f32⟩
  | 68 => ⟨S_, .f32⟩
  | 69 => ⟨S4x8x576x36x2, .f32⟩
  | 70 => ⟨S4x8x576x36x2, .f32⟩
  | 71 => ⟨S4x8x576x36x2, .f32⟩
  | 72 => ⟨S4x8x576x36x2, .f32⟩
  | 73 => ⟨S2x192, .f32⟩
  | 74 => ⟨S4x8x576x36x192, .f32⟩
  | 75 => ⟨S1x1x1x1x192, .f32⟩
  | 76 => ⟨S4x8x576x36x192, .f32⟩
  | 77 => ⟨S4x8x576x36x192, .f32⟩
  | 78 => ⟨S_, .f32⟩
  | 79 => ⟨S4x8x576x36x192, .f32⟩
  | 80 => ⟨S4x8x576x36x192, .f32⟩
  | 81 => ⟨S192x192, .f32⟩
  | 82 => ⟨S4x8x576x36x192, .f32⟩
  | 83 => ⟨S1x1x1x1x192, .f32⟩
  | 84 => ⟨S4x8x576x36x192, .f32⟩
  | 85 => ⟨S4x8x576x36x192, .f32⟩
  | 86 => ⟨S_, .f32⟩
  | 87 => ⟨S4x8x576x36x192, .f32⟩
  | 88 => ⟨S4x8x576x36x192, .f32⟩
  | 89 => ⟨S192x1, .f32⟩
  | 90 => ⟨S4x8x576x36x1, .f32⟩
  | 91 => ⟨S1x1x1x1x1, .f32⟩
  | 92 => ⟨S4x8x576x36x1, .f32⟩
  | 93 => ⟨S4x8x576x36x1, .f32⟩
  | 94 => ⟨S4x8x576x36, .f32⟩
  | 95 => ⟨S4x8x576x36, .f32⟩
  | 96 => ⟨S_, .f32⟩
  | 97 => ⟨S4x8x576, .f32⟩
  | 98 => ⟨S4x8x576x1, .f32⟩
  | 99 => ⟨S4x8x576x36, .f32⟩
  | 100 => ⟨S4x8x576x36, .f32⟩
  | 101 => ⟨S_, .f32⟩
  | 102 => ⟨S4x8x576, .f32⟩
  | 103 => ⟨S_, .f32⟩
  | 104 => ⟨S4x8x576, .f32⟩
  | 105 => ⟨S4x8x576, .f32⟩
  | 106 => ⟨S4x8x576x1, .f32⟩
  | 107 => ⟨S4x8x576x36, .f32⟩
  | 108 => ⟨S4x8x576x36, .f32⟩
  | 109 => ⟨S4x8x576x36, .f32⟩
  | 110 => ⟨S_, .f32⟩
  | 111 => ⟨S4x8x576, .f32⟩
  | 112 => ⟨S4x8x576x1, .f32⟩
  | 113 => ⟨S4x8x576x36, .f32⟩
  | 114 => ⟨S4x8x576x36, .f32⟩
  | 115 => ⟨S4x8x96x576, .f32⟩
  | 116 => ⟨S4x768x576, .f32⟩
  | 117 => ⟨S768x768, .f32⟩
  | 118 => ⟨S4x576x768, .f32⟩
  | 119 => ⟨S4x768x576, .f32⟩
  | 120 => ⟨S1x768x1, .f32⟩
  | 121 => ⟨S4x768x576, .f32⟩
  | 122 => ⟨S4x768x576, .f32⟩
  | _ => ⟨S4x768x576, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | _ => ⟨S4x768x576, .f32⟩

abbrev bufTy : (tb : Table) → Fin (tcTables nBuf tb) → BufTy
  | .hbm, ⟨i, _⟩ => hbmTy i
  | _, _ => ⟨S4x768x576, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_c : Ref sig .tc := ⟨.hbm, 21, rfl⟩
abbrev main_call0_v0 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩
abbrev main_v86 : Ref sig .tc := ⟨.hbm, 103, rfl⟩
abbrev main_v87 : Ref sig .tc := ⟨.hbm, 104, rfl⟩
abbrev main_v88 : Ref sig .tc := ⟨.hbm, 105, rfl⟩
abbrev main_v89 : Ref sig .tc := ⟨.hbm, 106, rfl⟩
abbrev main_v90 : Ref sig .tc := ⟨.hbm, 107, rfl⟩
abbrev main_v91 : Ref sig .tc := ⟨.hbm, 108, rfl⟩
abbrev main_v92 : Ref sig .tc := ⟨.hbm, 109, rfl⟩
abbrev main_v93 : Ref sig .tc := ⟨.hbm, 110, rfl⟩
abbrev main_v94 : Ref sig .tc := ⟨.hbm, 111, rfl⟩
abbrev main_v95 : Ref sig .tc := ⟨.hbm, 112, rfl⟩
abbrev main_v96 : Ref sig .tc := ⟨.hbm, 113, rfl⟩
abbrev main_v97 : Ref sig .tc := ⟨.hbm, 114, rfl⟩
abbrev main_v98 : Ref sig .tc := ⟨.hbm, 115, rfl⟩
abbrev main_v99 : Ref sig .tc := ⟨.hbm, 116, rfl⟩
abbrev main_v100 : Ref sig .tc := ⟨.hbm, 117, rfl⟩
abbrev main_v101 : Ref sig .tc := ⟨.hbm, 118, rfl⟩
abbrev main_v102 : Ref sig .tc := ⟨.hbm, 119, rfl⟩
abbrev main_v103 : Ref sig .tc := ⟨.hbm, 120, rfl⟩
abbrev main_v104 : Ref sig .tc := ⟨.hbm, 121, rfl⟩
abbrev main_v105 : Ref sig .tc := ⟨.hbm, 122, rfl⟩
abbrev main_v106 : Ref sig .tc := ⟨.hbm, 123, rfl⟩
abbrev main_v107 : Ref sig .tc := ⟨.hbm, 124, rfl⟩
abbrev main_v108 : Ref sig .tc := ⟨.hbm, 125, rfl⟩
abbrev main_v109 : Ref sig .tc := ⟨.hbm, 126, rfl⟩
abbrev main_v110 : Ref sig .tc := ⟨.hbm, 127, rfl⟩
abbrev main_v111 : Ref sig .tc := ⟨.hbm, 128, rfl⟩
abbrev main_v112 : Ref sig .tc := ⟨.hbm, 129, rfl⟩
abbrev main_v113 : Ref sig .tc := ⟨.hbm, 130, rfl⟩
abbrev main_v114 : Ref sig .tc := ⟨.hbm, 131, rfl⟩
abbrev main_v115 : Ref sig .tc := ⟨.hbm, 132, rfl⟩
abbrev main_v116 : Ref sig .tc := ⟨.hbm, 133, rfl⟩
abbrev main_v117 : Ref sig .tc := ⟨.hbm, 134, rfl⟩
abbrev main_v118 : Ref sig .tc := ⟨.hbm, 135, rfl⟩
abbrev main_v119 : Ref sig .tc := ⟨.hbm, 136, rfl⟩
abbrev main_v120 : Ref sig .tc := ⟨.hbm, 137, rfl⟩
abbrev main_v121 : Ref sig .tc := ⟨.hbm, 138, rfl⟩
abbrev main_v122 : Ref sig .tc := ⟨.hbm, 139, rfl⟩
abbrev main_v123 : Ref sig .tc := ⟨.hbm, 140, rfl⟩
abbrev main_v124 : Ref sig .tc := ⟨.hbm, 141, rfl⟩
abbrev main_v125 : Ref sig .tc := ⟨.hbm, 142, rfl⟩
abbrev main_v126 : Ref sig .tc := ⟨.hbm, 143, rfl⟩
abbrev main_v127 : Ref sig .tc := ⟨.hbm, 144, rfl⟩
abbrev main_v128 : Ref sig .tc := ⟨.hbm, 145, rfl⟩
abbrev main_v129 : Ref sig .tc := ⟨.hbm, 146, rfl⟩
abbrev main_v130 : Ref sig .tc := ⟨.hbm, 147, rfl⟩
abbrev main_v131 : Ref sig .tc := ⟨.hbm, 148, rfl⟩
abbrev main_v132 : Ref sig .tc := ⟨.hbm, 149, rfl⟩
abbrev main_v133 : Ref sig .tc := ⟨.hbm, 150, rfl⟩
abbrev main_v134 : Ref sig .tc := ⟨.hbm, 151, rfl⟩
abbrev main_v135 : Ref sig .tc := ⟨.hbm, 152, rfl⟩
abbrev main_v136 : Ref sig .tc := ⟨.hbm, 153, rfl⟩
abbrev main_v137 : Ref sig .tc := ⟨.hbm, 154, rfl⟩
abbrev main_v138 : Ref sig .tc := ⟨.hbm, 155, rfl⟩
abbrev main_v139 : Ref sig .tc := ⟨.hbm, 156, rfl⟩
abbrev main_v140 : Ref sig .tc := ⟨.hbm, 157, rfl⟩
abbrev main_v141 : Ref sig .tc := ⟨.hbm, 158, rfl⟩
abbrev main_v142 : Ref sig .tc := ⟨.hbm, 159, rfl⟩
abbrev main_v143 : Ref sig .tc := ⟨.hbm, 160, rfl⟩
abbrev main_v144 : Ref sig .tc := ⟨.hbm, 161, rfl⟩
abbrev main_v145 : Ref sig .tc := ⟨.hbm, 162, rfl⟩
abbrev main_v146 : Ref sig .tc := ⟨.hbm, 163, rfl⟩
abbrev main_v147 : Ref sig .tc := ⟨.hbm, 164, rfl⟩
abbrev main_v148 : Ref sig .tc := ⟨.hbm, 165, rfl⟩
abbrev main_v149 : Ref sig .tc := ⟨.hbm, 166, rfl⟩
abbrev main_v150 : Ref sig .tc := ⟨.hbm, 167, rfl⟩
abbrev main_v151 : Ref sig .tc := ⟨.hbm, 168, rfl⟩
abbrev main_v152 : Ref sig .tc := ⟨.hbm, 169, rfl⟩
abbrev main_v153 : Ref sig .tc := ⟨.hbm, 170, rfl⟩
abbrev main_v154 : Ref sig .tc := ⟨.hbm, 171, rfl⟩
abbrev main_v155 : Ref sig .tc := ⟨.hbm, 172, rfl⟩
abbrev main_v156 : Ref sig .tc := ⟨.hbm, 173, rfl⟩
abbrev main_v157 : Ref sig .tc := ⟨.hbm, 174, rfl⟩
abbrev main_v158 : Ref sig .tc := ⟨.hbm, 175, rfl⟩
abbrev main_v159 : Ref sig .tc := ⟨.hbm, 176, rfl⟩
abbrev main_v160 : Ref sig .tc := ⟨.hbm, 177, rfl⟩
abbrev main_v161 : Ref sig .tc := ⟨.hbm, 178, rfl⟩
abbrev main_v162 : Ref sig .tc := ⟨.hbm, 179, rfl⟩
abbrev main_v163 : Ref sig .tc := ⟨.hbm, 180, rfl⟩
abbrev main_v164 : Ref sig .tc := ⟨.hbm, 181, rfl⟩
abbrev main_v165 : Ref sig .tc := ⟨.hbm, 182, rfl⟩
abbrev main_v166 : Ref sig .tc := ⟨.hbm, 183, rfl⟩
abbrev main_v167 : Ref sig .tc := ⟨.hbm, 184, rfl⟩
abbrev main_v168 : Ref sig .tc := ⟨.hbm, 185, rfl⟩
abbrev main_v169 : Ref sig .tc := ⟨.hbm, 186, rfl⟩
abbrev main_v170 : Ref sig .tc := ⟨.hbm, 187, rfl⟩
abbrev main_v171 : Ref sig .tc := ⟨.hbm, 188, rfl⟩
abbrev main_v172 : Ref sig .tc := ⟨.hbm, 189, rfl⟩
abbrev main_v173 : Ref sig .tc := ⟨.hbm, 190, rfl⟩
abbrev main_v174 : Ref sig .tc := ⟨.hbm, 191, rfl⟩
abbrev main_v175 : Ref sig .tc := ⟨.hbm, 192, rfl⟩
abbrev main_v176 : Ref sig .tc := ⟨.hbm, 193, rfl⟩
abbrev main_v177 : Ref sig .tc := ⟨.hbm, 194, rfl⟩
abbrev main_v178 : Ref sig .tc := ⟨.hbm, 195, rfl⟩
abbrev main_v179 : Ref sig .tc := ⟨.hbm, 196, rfl⟩
abbrev main_v180 : Ref sig .tc := ⟨.hbm, 197, rfl⟩
abbrev main_v181 : Ref sig .tc := ⟨.hbm, 198, rfl⟩
abbrev main_v182 : Ref sig .tc := ⟨.hbm, 199, rfl⟩
abbrev main_v183 : Ref sig .tc := ⟨.hbm, 200, rfl⟩
abbrev main_v184 : Ref sig .tc := ⟨.hbm, 201, rfl⟩
abbrev main_v185 : Ref sig .tc := ⟨.hbm, 202, rfl⟩
abbrev main_v186 : Ref sig .tc := ⟨.hbm, 203, rfl⟩
abbrev main_v187 : Ref sig .tc := ⟨.hbm, 204, rfl⟩
abbrev main_v188 : Ref sig .tc := ⟨.hbm, 205, rfl⟩
abbrev main_v189 : Ref sig .tc := ⟨.hbm, 206, rfl⟩
abbrev main_v190 : Ref sig .tc := ⟨.hbm, 207, rfl⟩
abbrev main_v191 : Ref sig .tc := ⟨.hbm, 208, rfl⟩
abbrev main_v192 : Ref sig .tc := ⟨.hbm, 209, rfl⟩
abbrev main_v193 : Ref sig .tc := ⟨.hbm, 210, rfl⟩
abbrev main_v194 : Ref sig .tc := ⟨.hbm, 211, rfl⟩
abbrev main_v195 : Ref sig .tc := ⟨.hbm, 212, rfl⟩
abbrev main_v196 : Ref sig .tc := ⟨.hbm, 213, rfl⟩
abbrev main_v197 : Ref sig .tc := ⟨.hbm, 214, rfl⟩
abbrev main_v198 : Ref sig .tc := ⟨.hbm, 215, rfl⟩
abbrev main_v199 : Ref sig .tc := ⟨.hbm, 216, rfl⟩
abbrev main_v200 : Ref sig .tc := ⟨.hbm, 217, rfl⟩
abbrev main_v201 : Ref sig .tc := ⟨.hbm, 218, rfl⟩
abbrev main_v202 : Ref sig .tc := ⟨.hbm, 219, rfl⟩
abbrev main_v203 : Ref sig .tc := ⟨.hbm, 220, rfl⟩
abbrev main_v204 : Ref sig .tc := ⟨.hbm, 221, rfl⟩
abbrev main_v205 : Ref sig .tc := ⟨.hbm, 222, rfl⟩
abbrev main_v206 : Ref sig .tc := ⟨.hbm, 223, rfl⟩
abbrev main_v207 : Ref sig .tc := ⟨.hbm, 224, rfl⟩
abbrev main_v208 : Ref sig .tc := ⟨.hbm, 225, rfl⟩
abbrev main_v209 : Ref sig .tc := ⟨.hbm, 226, rfl⟩
abbrev main_v210 : Ref sig .tc := ⟨.hbm, 227, rfl⟩
abbrev main_v211 : Ref sig .tc := ⟨.hbm, 228, rfl⟩
abbrev main_v212 : Ref sig .tc := ⟨.hbm, 229, rfl⟩
abbrev main_v213 : Ref sig .tc := ⟨.hbm, 230, rfl⟩
abbrev main_v214 : Ref sig .tc := ⟨.hbm, 231, rfl⟩
abbrev main_v215 : Ref sig .tc := ⟨.hbm, 232, rfl⟩
abbrev main_v216 : Ref sig .tc := ⟨.hbm, 233, rfl⟩
abbrev main_v217 : Ref sig .tc := ⟨.hbm, 234, rfl⟩
abbrev main_v218 : Ref sig .tc := ⟨.hbm, 235, rfl⟩
abbrev main_v219 : Ref sig .tc := ⟨.hbm, 236, rfl⟩
abbrev main_v220 : Ref sig .tc := ⟨.hbm, 237, rfl⟩
abbrev main_v221 : Ref sig .tc := ⟨.hbm, 238, rfl⟩
abbrev main_v222 : Ref sig .tc := ⟨.hbm, 239, rfl⟩
abbrev main_v223 : Ref sig .tc := ⟨.hbm, 240, rfl⟩
abbrev main_v224 : Ref sig .tc := ⟨.hbm, 241, rfl⟩
abbrev main_v225 : Ref sig .tc := ⟨.hbm, 242, rfl⟩
abbrev main_v226 : Ref sig .tc := ⟨.hbm, 243, rfl⟩
abbrev main_v227 : Ref sig .tc := ⟨.hbm, 244, rfl⟩
abbrev main_v228 : Ref sig .tc := ⟨.hbm, 245, rfl⟩
abbrev main_v229 : Ref sig .tc := ⟨.hbm, 246, rfl⟩
abbrev main_v230 : Ref sig .tc := ⟨.hbm, 247, rfl⟩
abbrev main_v231 : Ref sig .tc := ⟨.hbm, 248, rfl⟩
abbrev main_v232 : Ref sig .tc := ⟨.hbm, 249, rfl⟩
abbrev main_v233 : Ref sig .tc := ⟨.hbm, 250, rfl⟩
abbrev main_v234 : Ref sig .tc := ⟨.hbm, 251, rfl⟩
abbrev main_v235 : Ref sig .tc := ⟨.hbm, 252, rfl⟩
abbrev main_v236 : Ref sig .tc := ⟨.hbm, 253, rfl⟩
abbrev main_v237 : Ref sig .tc := ⟨.hbm, 254, rfl⟩
abbrev main_v238 : Ref sig .tc := ⟨.hbm, 255, rfl⟩
abbrev main_v239 : Ref sig .tc := ⟨.hbm, 256, rfl⟩
abbrev main_v240 : Ref sig .tc := ⟨.hbm, 257, rfl⟩
abbrev main_v241 : Ref sig .tc := ⟨.hbm, 258, rfl⟩
abbrev main_v242 : Ref sig .tc := ⟨.hbm, 259, rfl⟩
abbrev main_v243 : Ref sig .tc := ⟨.hbm, 260, rfl⟩
abbrev main_v244 : Ref sig .tc := ⟨.hbm, 261, rfl⟩
abbrev main_v245 : Ref sig .tc := ⟨.hbm, 262, rfl⟩
abbrev main_v246 : Ref sig .tc := ⟨.hbm, 263, rfl⟩
abbrev main_v247 : Ref sig .tc := ⟨.hbm, 264, rfl⟩
abbrev main_v248 : Ref sig .tc := ⟨.hbm, 265, rfl⟩
abbrev main_v249 : Ref sig .tc := ⟨.hbm, 266, rfl⟩
abbrev main_v250 : Ref sig .tc := ⟨.hbm, 267, rfl⟩
abbrev main_v251 : Ref sig .tc := ⟨.hbm, 268, rfl⟩
abbrev main_v252 : Ref sig .tc := ⟨.hbm, 269, rfl⟩
abbrev main_v253 : Ref sig .tc := ⟨.hbm, 270, rfl⟩
abbrev main_v254 : Ref sig .tc := ⟨.hbm, 271, rfl⟩
abbrev main_v255 : Ref sig .tc := ⟨.hbm, 272, rfl⟩
abbrev main_v256 : Ref sig .tc := ⟨.hbm, 273, rfl⟩
abbrev main_v257 : Ref sig .tc := ⟨.hbm, 274, rfl⟩
abbrev main_v258 : Ref sig .tc := ⟨.hbm, 275, rfl⟩
abbrev main_v259 : Ref sig .tc := ⟨.hbm, 276, rfl⟩
abbrev main_v260 : Ref sig .tc := ⟨.hbm, 277, rfl⟩
abbrev main_v261 : Ref sig .tc := ⟨.hbm, 278, rfl⟩
abbrev main_cst : Ref sig .tc := ⟨.hbm, 279, rfl⟩
abbrev main_v262 : Ref sig .tc := ⟨.hbm, 280, rfl⟩
abbrev main_v263 : Ref sig .tc := ⟨.hbm, 281, rfl⟩
abbrev main_cst_0 : Ref sig .tc := ⟨.hbm, 282, rfl⟩
abbrev main_v264 : Ref sig .tc := ⟨.hbm, 283, rfl⟩
abbrev main_v265 : Ref sig .tc := ⟨.hbm, 284, rfl⟩
abbrev main_v266 : Ref sig .tc := ⟨.hbm, 285, rfl⟩
abbrev main_v267 : Ref sig .tc := ⟨.hbm, 286, rfl⟩
abbrev main_cst_1 : Ref sig .tc := ⟨.hbm, 287, rfl⟩
abbrev main_v268 : Ref sig .tc := ⟨.hbm, 288, rfl⟩
abbrev main_v269 : Ref sig .tc := ⟨.hbm, 289, rfl⟩
abbrev main_v270 : Ref sig .tc := ⟨.hbm, 290, rfl⟩
abbrev main_v271 : Ref sig .tc := ⟨.hbm, 291, rfl⟩
abbrev main_v272 : Ref sig .tc := ⟨.hbm, 292, rfl⟩
abbrev main_v273 : Ref sig .tc := ⟨.hbm, 293, rfl⟩
abbrev main_v274 : Ref sig .tc := ⟨.hbm, 294, rfl⟩
abbrev main_cst_2 : Ref sig .tc := ⟨.hbm, 295, rfl⟩
abbrev main_v275 : Ref sig .tc := ⟨.hbm, 296, rfl⟩
abbrev main_v276 : Ref sig .tc := ⟨.hbm, 297, rfl⟩
abbrev main_v277 : Ref sig .tc := ⟨.hbm, 298, rfl⟩
abbrev main_v278 : Ref sig .tc := ⟨.hbm, 299, rfl⟩
abbrev main_v279 : Ref sig .tc := ⟨.hbm, 300, rfl⟩
abbrev main_v280 : Ref sig .tc := ⟨.hbm, 301, rfl⟩
abbrev main_v281 : Ref sig .tc := ⟨.hbm, 302, rfl⟩
abbrev main_v282 : Ref sig .tc := ⟨.hbm, 303, rfl⟩
abbrev main_v283 : Ref sig .tc := ⟨.hbm, 304, rfl⟩
abbrev main_v284 : Ref sig .tc := ⟨.hbm, 305, rfl⟩
abbrev main_v285 : Ref sig .tc := ⟨.hbm, 306, rfl⟩
abbrev main_v286 : Ref sig .tc := ⟨.hbm, 307, rfl⟩
abbrev main_v287 : Ref sig .tc := ⟨.hbm, 308, rfl⟩
abbrev main_cst_3 : Ref sig .tc := ⟨.hbm, 309, rfl⟩
abbrev main_v288 : Ref sig .tc := ⟨.hbm, 310, rfl⟩
abbrev main_v289 : Ref sig .tc := ⟨.hbm, 311, rfl⟩
abbrev main_cst_4 : Ref sig .tc := ⟨.hbm, 312, rfl⟩
abbrev main_v290 : Ref sig .tc := ⟨.hbm, 313, rfl⟩
abbrev main_v291 : Ref sig .tc := ⟨.hbm, 314, rfl⟩
abbrev main_cst_5 : Ref sig .tc := ⟨.hbm, 315, rfl⟩
abbrev main_v292 : Ref sig .tc := ⟨.hbm, 316, rfl⟩
abbrev main_v293 : Ref sig .tc := ⟨.hbm, 317, rfl⟩
abbrev main_v294 : Ref sig .tc := ⟨.hbm, 318, rfl⟩
abbrev main_v295 : Ref sig .tc := ⟨.hbm, 319, rfl⟩
abbrev main_v296 : Ref sig .tc := ⟨.hbm, 320, rfl⟩
abbrev main_v297 : Ref sig .tc := ⟨.hbm, 321, rfl⟩
abbrev main_v298 : Ref sig .tc := ⟨.hbm, 322, rfl⟩
abbrev main_v299 : Ref sig .tc := ⟨.hbm, 323, rfl⟩
abbrev main_v300 : Ref sig .tc := ⟨.hbm, 324, rfl⟩
abbrev main_cst_6 : Ref sig .tc := ⟨.hbm, 325, rfl⟩
abbrev main_v301 : Ref sig .tc := ⟨.hbm, 326, rfl⟩
abbrev main_v302 : Ref sig .tc := ⟨.hbm, 327, rfl⟩
abbrev main_cst_7 : Ref sig .tc := ⟨.hbm, 328, rfl⟩
abbrev main_v303 : Ref sig .tc := ⟨.hbm, 329, rfl⟩
abbrev main_v304 : Ref sig .tc := ⟨.hbm, 330, rfl⟩
abbrev main_cst_8 : Ref sig .tc := ⟨.hbm, 331, rfl⟩
abbrev main_v305 : Ref sig .tc := ⟨.hbm, 332, rfl⟩
abbrev main_v306 : Ref sig .tc := ⟨.hbm, 333, rfl⟩
abbrev main_cst_9 : Ref sig .tc := ⟨.hbm, 334, rfl⟩
abbrev main_v307 : Ref sig .tc := ⟨.hbm, 335, rfl⟩
abbrev main_v308 : Ref sig .tc := ⟨.hbm, 336, rfl⟩
abbrev main_cst_10 : Ref sig .tc := ⟨.hbm, 337, rfl⟩
abbrev main_v309 : Ref sig .tc := ⟨.hbm, 338, rfl⟩
abbrev main_v310 : Ref sig .tc := ⟨.hbm, 339, rfl⟩
abbrev main_cst_11 : Ref sig .tc := ⟨.hbm, 340, rfl⟩
abbrev main_v311 : Ref sig .tc := ⟨.hbm, 341, rfl⟩
abbrev main_v312 : Ref sig .tc := ⟨.hbm, 342, rfl⟩
abbrev main_cst_12 : Ref sig .tc := ⟨.hbm, 343, rfl⟩
abbrev main_v313 : Ref sig .tc := ⟨.hbm, 344, rfl⟩
abbrev main_v314 : Ref sig .tc := ⟨.hbm, 345, rfl⟩
abbrev main_cst_13 : Ref sig .tc := ⟨.hbm, 346, rfl⟩
abbrev main_v315 : Ref sig .tc := ⟨.hbm, 347, rfl⟩
abbrev main_v316 : Ref sig .tc := ⟨.hbm, 348, rfl⟩
abbrev main_cst_14 : Ref sig .tc := ⟨.hbm, 349, rfl⟩
abbrev main_v317 : Ref sig .tc := ⟨.hbm, 350, rfl⟩
abbrev main_v318 : Ref sig .tc := ⟨.hbm, 351, rfl⟩
abbrev main_cst_15 : Ref sig .tc := ⟨.hbm, 352, rfl⟩
abbrev main_v319 : Ref sig .tc := ⟨.hbm, 353, rfl⟩
abbrev main_v320 : Ref sig .tc := ⟨.hbm, 354, rfl⟩
abbrev main_cst_16 : Ref sig .tc := ⟨.hbm, 355, rfl⟩
abbrev main_v321 : Ref sig .tc := ⟨.hbm, 356, rfl⟩
abbrev main_v322 : Ref sig .tc := ⟨.hbm, 357, rfl⟩
abbrev main_v323 : Ref sig .tc := ⟨.hbm, 358, rfl⟩
abbrev main_v324 : Ref sig .tc := ⟨.hbm, 359, rfl⟩
abbrev main_cst_17 : Ref sig .tc := ⟨.hbm, 360, rfl⟩
abbrev main_v325 : Ref sig .tc := ⟨.hbm, 361, rfl⟩
abbrev main_v326 : Ref sig .tc := ⟨.hbm, 362, rfl⟩
abbrev main_cst_18 : Ref sig .tc := ⟨.hbm, 363, rfl⟩
abbrev main_v327 : Ref sig .tc := ⟨.hbm, 364, rfl⟩
abbrev main_v328 : Ref sig .tc := ⟨.hbm, 365, rfl⟩
abbrev main_v329 : Ref sig .tc := ⟨.hbm, 366, rfl⟩
abbrev main_cst_19 : Ref sig .tc := ⟨.hbm, 367, rfl⟩
abbrev main_v330 : Ref sig .tc := ⟨.hbm, 368, rfl⟩
abbrev main_v331 : Ref sig .tc := ⟨.hbm, 369, rfl⟩
abbrev main_v332 : Ref sig .tc := ⟨.hbm, 370, rfl⟩
abbrev main_cst_20 : Ref sig .tc := ⟨.hbm, 371, rfl⟩
abbrev main_v333 : Ref sig .tc := ⟨.hbm, 372, rfl⟩
abbrev main_v334 : Ref sig .tc := ⟨.hbm, 373, rfl⟩
abbrev main_cst_21 : Ref sig .tc := ⟨.hbm, 374, rfl⟩
abbrev main_v335 : Ref sig .tc := ⟨.hbm, 375, rfl⟩
abbrev main_v336 : Ref sig .tc := ⟨.hbm, 376, rfl⟩
abbrev main_cst_22 : Ref sig .tc := ⟨.hbm, 377, rfl⟩
abbrev main_v337 : Ref sig .tc := ⟨.hbm, 378, rfl⟩
abbrev main_v338 : Ref sig .tc := ⟨.hbm, 379, rfl⟩
abbrev main_v339 : Ref sig .tc := ⟨.hbm, 380, rfl⟩
abbrev main_cst_23 : Ref sig .tc := ⟨.hbm, 381, rfl⟩
abbrev main_v340 : Ref sig .tc := ⟨.hbm, 382, rfl⟩
abbrev main_v341 : Ref sig .tc := ⟨.hbm, 383, rfl⟩
abbrev main_v342 : Ref sig .tc := ⟨.hbm, 384, rfl⟩
abbrev main_cst_24 : Ref sig .tc := ⟨.hbm, 385, rfl⟩
abbrev main_v343 : Ref sig .tc := ⟨.hbm, 386, rfl⟩
abbrev main_v344 : Ref sig .tc := ⟨.hbm, 387, rfl⟩
abbrev main_v345 : Ref sig .tc := ⟨.hbm, 388, rfl⟩
abbrev main_c_25 : Ref sig .tc := ⟨.hbm, 389, rfl⟩
abbrev main_c_26 : Ref sig .tc := ⟨.hbm, 390, rfl⟩
abbrev main_call1_v0 : Ref sig .tc := ⟨.hbm, 391, rfl⟩
abbrev main_call1_v1 : Ref sig .tc := ⟨.hbm, 392, rfl⟩
abbrev main_call1_v2 : Ref sig .tc := ⟨.hbm, 393, rfl⟩
abbrev main_call1_v3 : Ref sig .tc := ⟨.hbm, 394, rfl⟩
abbrev main_call1_v4 : Ref sig .tc := ⟨.hbm, 395, rfl⟩
abbrev main_v346 : Ref sig .tc := ⟨.hbm, 396, rfl⟩
abbrev main_v347 : Ref sig .tc := ⟨.hbm, 397, rfl⟩
abbrev main_c_27 : Ref sig .tc := ⟨.hbm, 398, rfl⟩
abbrev main_c_28 : Ref sig .tc := ⟨.hbm, 399, rfl⟩
abbrev main_call2_v0 : Ref sig .tc := ⟨.hbm, 400, rfl⟩
abbrev main_call2_v1 : Ref sig .tc := ⟨.hbm, 401, rfl⟩
abbrev main_call2_v2 : Ref sig .tc := ⟨.hbm, 402, rfl⟩
abbrev main_call2_v3 : Ref sig .tc := ⟨.hbm, 403, rfl⟩
abbrev main_call2_v4 : Ref sig .tc := ⟨.hbm, 404, rfl⟩
abbrev main_v348 : Ref sig .tc := ⟨.hbm, 405, rfl⟩
abbrev main_v349 : Ref sig .tc := ⟨.hbm, 406, rfl⟩
abbrev main_c_29 : Ref sig .tc := ⟨.hbm, 407, rfl⟩
abbrev main_v350 : Ref sig .tc := ⟨.hbm, 408, rfl⟩
abbrev main_v351 : Ref sig .tc := ⟨.hbm, 409, rfl⟩
abbrev main_v352 : Ref sig .tc := ⟨.hbm, 410, rfl⟩
abbrev main_v353 : Ref sig .tc := ⟨.hbm, 411, rfl⟩
abbrev main_call3_c : Ref sig .tc := ⟨.hbm, 412, rfl⟩
abbrev main_call3_v0 : Ref sig .tc := ⟨.hbm, 413, rfl⟩
abbrev main_call3_v1 : Ref sig .tc := ⟨.hbm, 414, rfl⟩
abbrev main_call3_c_0 : Ref sig .tc := ⟨.hbm, 415, rfl⟩
abbrev main_call3_v2 : Ref sig .tc := ⟨.hbm, 416, rfl⟩
abbrev main_call3_v3 : Ref sig .tc := ⟨.hbm, 417, rfl⟩
abbrev main_call3_v4 : Ref sig .tc := ⟨.hbm, 418, rfl⟩
abbrev main_call3_v5 : Ref sig .tc := ⟨.hbm, 419, rfl⟩
abbrev main_call3_c_1 : Ref sig .tc := ⟨.hbm, 420, rfl⟩
abbrev main_call3_c_2 : Ref sig .tc := ⟨.hbm, 421, rfl⟩
abbrev main_call3_v6 : Ref sig .tc := ⟨.hbm, 422, rfl⟩
abbrev main_call3_v7 : Ref sig .tc := ⟨.hbm, 423, rfl⟩
abbrev main_call3_v8 : Ref sig .tc := ⟨.hbm, 424, rfl⟩
abbrev main_call3_v9 : Ref sig .tc := ⟨.hbm, 425, rfl⟩
abbrev main_call3_v10 : Ref sig .tc := ⟨.hbm, 426, rfl⟩
abbrev main_call3_v11 : Ref sig .tc := ⟨.hbm, 427, rfl⟩
abbrev main_call3_c_3 : Ref sig .tc := ⟨.hbm, 428, rfl⟩
abbrev main_call3_v12 : Ref sig .tc := ⟨.hbm, 429, rfl⟩
abbrev main_call3_v13 : Ref sig .tc := ⟨.hbm, 430, rfl⟩
abbrev main_call3_v14 : Ref sig .tc := ⟨.hbm, 431, rfl⟩
abbrev main_call3_cst : Ref sig .tc := ⟨.hbm, 432, rfl⟩
abbrev main_call3_v15 : Ref sig .tc := ⟨.hbm, 433, rfl⟩
abbrev main_v354 : Ref sig .tc := ⟨.hbm, 434, rfl⟩
abbrev main_v355 : Ref sig .tc := ⟨.hbm, 435, rfl⟩
abbrev main_v356 : Ref sig .tc := ⟨.hbm, 436, rfl⟩
abbrev main_v357 : Ref sig .tc := ⟨.hbm, 437, rfl⟩
abbrev main_v358 : Ref sig .tc := ⟨.hbm, 438, rfl⟩
abbrev main_v359 : Ref sig .tc := ⟨.hbm, 439, rfl⟩
abbrev main_v360 : Ref sig .tc := ⟨.hbm, 440, rfl⟩
abbrev main_v361 : Ref sig .tc := ⟨.hbm, 441, rfl⟩
abbrev main_v362 : Ref sig .tc := ⟨.hbm, 442, rfl⟩
abbrev main_cst_30 : Ref sig .tc := ⟨.hbm, 443, rfl⟩
abbrev main_v363 : Ref sig .tc := ⟨.hbm, 444, rfl⟩
abbrev main_v364 : Ref sig .tc := ⟨.hbm, 445, rfl⟩
abbrev main_cst_31 : Ref sig .tc := ⟨.hbm, 446, rfl⟩
abbrev main_v365 : Ref sig .tc := ⟨.hbm, 447, rfl⟩
abbrev main_v366 : Ref sig .tc := ⟨.hbm, 448, rfl⟩
abbrev main_v367 : Ref sig .tc := ⟨.hbm, 449, rfl⟩
abbrev main_cst_32 : Ref sig .tc := ⟨.hbm, 450, rfl⟩
abbrev main_v368 : Ref sig .tc := ⟨.hbm, 451, rfl⟩
abbrev main_v369 : Ref sig .tc := ⟨.hbm, 452, rfl⟩
abbrev main_v370 : Ref sig .tc := ⟨.hbm, 453, rfl⟩
abbrev main_cst_33 : Ref sig .tc := ⟨.hbm, 454, rfl⟩
abbrev main_v371 : Ref sig .tc := ⟨.hbm, 455, rfl⟩
abbrev main_v372 : Ref sig .tc := ⟨.hbm, 456, rfl⟩
abbrev main_v373 : Ref sig .tc := ⟨.hbm, 457, rfl⟩
abbrev main_c_34 : Ref sig .tc := ⟨.hbm, 458, rfl⟩
abbrev main_c_35 : Ref sig .tc := ⟨.hbm, 459, rfl⟩
abbrev main_call4_v0 : Ref sig .tc := ⟨.hbm, 460, rfl⟩
abbrev main_call4_v1 : Ref sig .tc := ⟨.hbm, 461, rfl⟩
abbrev main_call4_v2 : Ref sig .tc := ⟨.hbm, 462, rfl⟩
abbrev main_call4_v3 : Ref sig .tc := ⟨.hbm, 463, rfl⟩
abbrev main_call4_v4 : Ref sig .tc := ⟨.hbm, 464, rfl⟩
abbrev main_v374 : Ref sig .tc := ⟨.hbm, 465, rfl⟩
abbrev main_v375 : Ref sig .tc := ⟨.hbm, 466, rfl⟩
abbrev main_c_36 : Ref sig .tc := ⟨.hbm, 467, rfl⟩
abbrev main_c_37 : Ref sig .tc := ⟨.hbm, 468, rfl⟩
abbrev main_call5_v0 : Ref sig .tc := ⟨.hbm, 469, rfl⟩
abbrev main_call5_v1 : Ref sig .tc := ⟨.hbm, 470, rfl⟩
abbrev main_call5_v2 : Ref sig .tc := ⟨.hbm, 471, rfl⟩
abbrev main_call5_v3 : Ref sig .tc := ⟨.hbm, 472, rfl⟩
abbrev main_call5_v4 : Ref sig .tc := ⟨.hbm, 473, rfl⟩
abbrev main_v376 : Ref sig .tc := ⟨.hbm, 474, rfl⟩
abbrev main_v377 : Ref sig .tc := ⟨.hbm, 475, rfl⟩
abbrev main_c_38 : Ref sig .tc := ⟨.hbm, 476, rfl⟩
abbrev main_v378 : Ref sig .tc := ⟨.hbm, 477, rfl⟩
abbrev main_v379 : Ref sig .tc := ⟨.hbm, 478, rfl⟩
abbrev main_v380 : Ref sig .tc := ⟨.hbm, 479, rfl⟩
abbrev main_v381 : Ref sig .tc := ⟨.hbm, 480, rfl⟩
abbrev main_call6_c : Ref sig .tc := ⟨.hbm, 481, rfl⟩
abbrev main_call6_v0 : Ref sig .tc := ⟨.hbm, 482, rfl⟩
abbrev main_call6_v1 : Ref sig .tc := ⟨.hbm, 483, rfl⟩
abbrev main_call6_c_0 : Ref sig .tc := ⟨.hbm, 484, rfl⟩
abbrev main_call6_v2 : Ref sig .tc := ⟨.hbm, 485, rfl⟩
abbrev main_call6_v3 : Ref sig .tc := ⟨.hbm, 486, rfl⟩
abbrev main_call6_v4 : Ref sig .tc := ⟨.hbm, 487, rfl⟩
abbrev main_call6_v5 : Ref sig .tc := ⟨.hbm, 488, rfl⟩
abbrev main_call6_c_1 : Ref sig .tc := ⟨.hbm, 489, rfl⟩
abbrev main_call6_c_2 : Ref sig .tc := ⟨.hbm, 490, rfl⟩
abbrev main_call6_v6 : Ref sig .tc := ⟨.hbm, 491, rfl⟩
abbrev main_call6_v7 : Ref sig .tc := ⟨.hbm, 492, rfl⟩
abbrev main_call6_v8 : Ref sig .tc := ⟨.hbm, 493, rfl⟩
abbrev main_call6_v9 : Ref sig .tc := ⟨.hbm, 494, rfl⟩
abbrev main_call6_v10 : Ref sig .tc := ⟨.hbm, 495, rfl⟩
abbrev main_call6_v11 : Ref sig .tc := ⟨.hbm, 496, rfl⟩
abbrev main_call6_c_3 : Ref sig .tc := ⟨.hbm, 497, rfl⟩
abbrev main_call6_v12 : Ref sig .tc := ⟨.hbm, 498, rfl⟩
abbrev main_call6_v13 : Ref sig .tc := ⟨.hbm, 499, rfl⟩
abbrev main_call6_v14 : Ref sig .tc := ⟨.hbm, 500, rfl⟩
abbrev main_call6_cst : Ref sig .tc := ⟨.hbm, 501, rfl⟩
abbrev main_call6_v15 : Ref sig .tc := ⟨.hbm, 502, rfl⟩
abbrev main_v382 : Ref sig .tc := ⟨.hbm, 503, rfl⟩
abbrev main_v383 : Ref sig .tc := ⟨.hbm, 504, rfl⟩
abbrev main_v384 : Ref sig .tc := ⟨.hbm, 505, rfl⟩
abbrev main_v385 : Ref sig .tc := ⟨.hbm, 506, rfl⟩
abbrev main_v386 : Ref sig .tc := ⟨.hbm, 507, rfl⟩
abbrev main_v387 : Ref sig .tc := ⟨.hbm, 508, rfl⟩
abbrev main_v388 : Ref sig .tc := ⟨.hbm, 509, rfl⟩
abbrev main_v389 : Ref sig .tc := ⟨.hbm, 510, rfl⟩
abbrev main_v390 : Ref sig .tc := ⟨.hbm, 511, rfl⟩
abbrev main_v391 : Ref sig .tc := ⟨.hbm, 512, rfl⟩
abbrev main_cst_39 : Ref sig .tc := ⟨.hbm, 513, rfl⟩
abbrev main_v392 : Ref sig .tc := ⟨.hbm, 514, rfl⟩
abbrev main_v393 : Ref sig .tc := ⟨.hbm, 515, rfl⟩
abbrev main_cst_40 : Ref sig .tc := ⟨.hbm, 516, rfl⟩
abbrev main_v394 : Ref sig .tc := ⟨.hbm, 517, rfl⟩
abbrev main_v395 : Ref sig .tc := ⟨.hbm, 518, rfl⟩
abbrev main_v396 : Ref sig .tc := ⟨.hbm, 519, rfl⟩
abbrev main_cst_41 : Ref sig .tc := ⟨.hbm, 520, rfl⟩
abbrev main_v397 : Ref sig .tc := ⟨.hbm, 521, rfl⟩
abbrev main_v398 : Ref sig .tc := ⟨.hbm, 522, rfl⟩
abbrev main_v399 : Ref sig .tc := ⟨.hbm, 523, rfl⟩
abbrev main_cst_42 : Ref sig .tc := ⟨.hbm, 524, rfl⟩
abbrev main_v400 : Ref sig .tc := ⟨.hbm, 525, rfl⟩
abbrev main_v401 : Ref sig .tc := ⟨.hbm, 526, rfl⟩
abbrev main_v402 : Ref sig .tc := ⟨.hbm, 527, rfl⟩
abbrev main_c_43 : Ref sig .tc := ⟨.hbm, 528, rfl⟩
abbrev main_c_44 : Ref sig .tc := ⟨.hbm, 529, rfl⟩
abbrev main_call7_v0 : Ref sig .tc := ⟨.hbm, 530, rfl⟩
abbrev main_call7_v1 : Ref sig .tc := ⟨.hbm, 531, rfl⟩
abbrev main_call7_v2 : Ref sig .tc := ⟨.hbm, 532, rfl⟩
abbrev main_call7_v3 : Ref sig .tc := ⟨.hbm, 533, rfl⟩
abbrev main_call7_v4 : Ref sig .tc := ⟨.hbm, 534, rfl⟩
abbrev main_v403 : Ref sig .tc := ⟨.hbm, 535, rfl⟩
abbrev main_v404 : Ref sig .tc := ⟨.hbm, 536, rfl⟩
abbrev main_c_45 : Ref sig .tc := ⟨.hbm, 537, rfl⟩
abbrev main_c_46 : Ref sig .tc := ⟨.hbm, 538, rfl⟩
abbrev main_call8_v0 : Ref sig .tc := ⟨.hbm, 539, rfl⟩
abbrev main_call8_v1 : Ref sig .tc := ⟨.hbm, 540, rfl⟩
abbrev main_call8_v2 : Ref sig .tc := ⟨.hbm, 541, rfl⟩
abbrev main_call8_v3 : Ref sig .tc := ⟨.hbm, 542, rfl⟩
abbrev main_call8_v4 : Ref sig .tc := ⟨.hbm, 543, rfl⟩
abbrev main_v405 : Ref sig .tc := ⟨.hbm, 544, rfl⟩
abbrev main_v406 : Ref sig .tc := ⟨.hbm, 545, rfl⟩
abbrev main_c_47 : Ref sig .tc := ⟨.hbm, 546, rfl⟩
abbrev main_v407 : Ref sig .tc := ⟨.hbm, 547, rfl⟩
abbrev main_v408 : Ref sig .tc := ⟨.hbm, 548, rfl⟩
abbrev main_v409 : Ref sig .tc := ⟨.hbm, 549, rfl⟩
abbrev main_v410 : Ref sig .tc := ⟨.hbm, 550, rfl⟩
abbrev main_call9_c : Ref sig .tc := ⟨.hbm, 551, rfl⟩
abbrev main_call9_v0 : Ref sig .tc := ⟨.hbm, 552, rfl⟩
abbrev main_call9_v1 : Ref sig .tc := ⟨.hbm, 553, rfl⟩
abbrev main_call9_c_0 : Ref sig .tc := ⟨.hbm, 554, rfl⟩
abbrev main_call9_v2 : Ref sig .tc := ⟨.hbm, 555, rfl⟩
abbrev main_call9_v3 : Ref sig .tc := ⟨.hbm, 556, rfl⟩
abbrev main_call9_v4 : Ref sig .tc := ⟨.hbm, 557, rfl⟩
abbrev main_call9_v5 : Ref sig .tc := ⟨.hbm, 558, rfl⟩
abbrev main_call9_c_1 : Ref sig .tc := ⟨.hbm, 559, rfl⟩
abbrev main_call9_c_2 : Ref sig .tc := ⟨.hbm, 560, rfl⟩
abbrev main_call9_v6 : Ref sig .tc := ⟨.hbm, 561, rfl⟩
abbrev main_call9_v7 : Ref sig .tc := ⟨.hbm, 562, rfl⟩
abbrev main_call9_v8 : Ref sig .tc := ⟨.hbm, 563, rfl⟩
abbrev main_call9_v9 : Ref sig .tc := ⟨.hbm, 564, rfl⟩
abbrev main_call9_v10 : Ref sig .tc := ⟨.hbm, 565, rfl⟩
abbrev main_call9_v11 : Ref sig .tc := ⟨.hbm, 566, rfl⟩
abbrev main_call9_c_3 : Ref sig .tc := ⟨.hbm, 567, rfl⟩
abbrev main_call9_v12 : Ref sig .tc := ⟨.hbm, 568, rfl⟩
abbrev main_call9_v13 : Ref sig .tc := ⟨.hbm, 569, rfl⟩
abbrev main_call9_v14 : Ref sig .tc := ⟨.hbm, 570, rfl⟩
abbrev main_call9_cst : Ref sig .tc := ⟨.hbm, 571, rfl⟩
abbrev main_call9_v15 : Ref sig .tc := ⟨.hbm, 572, rfl⟩
abbrev main_v411 : Ref sig .tc := ⟨.hbm, 573, rfl⟩
abbrev main_v412 : Ref sig .tc := ⟨.hbm, 574, rfl⟩
abbrev main_v413 : Ref sig .tc := ⟨.hbm, 575, rfl⟩
abbrev main_v414 : Ref sig .tc := ⟨.hbm, 576, rfl⟩
abbrev main_v415 : Ref sig .tc := ⟨.hbm, 577, rfl⟩
abbrev main_v416 : Ref sig .tc := ⟨.hbm, 578, rfl⟩
abbrev main_v417 : Ref sig .tc := ⟨.hbm, 579, rfl⟩
abbrev main_v418 : Ref sig .tc := ⟨.hbm, 580, rfl⟩
abbrev main_v419 : Ref sig .tc := ⟨.hbm, 581, rfl⟩
abbrev main_v420 : Ref sig .tc := ⟨.hbm, 582, rfl⟩
abbrev main_cst_48 : Ref sig .tc := ⟨.hbm, 583, rfl⟩
abbrev main_v421 : Ref sig .tc := ⟨.hbm, 584, rfl⟩
abbrev main_v422 : Ref sig .tc := ⟨.hbm, 585, rfl⟩
abbrev main_cst_49 : Ref sig .tc := ⟨.hbm, 586, rfl⟩
abbrev main_v423 : Ref sig .tc := ⟨.hbm, 587, rfl⟩
abbrev main_v424 : Ref sig .tc := ⟨.hbm, 588, rfl⟩
abbrev main_v425 : Ref sig .tc := ⟨.hbm, 589, rfl⟩
abbrev main_cst_50 : Ref sig .tc := ⟨.hbm, 590, rfl⟩
abbrev main_v426 : Ref sig .tc := ⟨.hbm, 591, rfl⟩
abbrev main_v427 : Ref sig .tc := ⟨.hbm, 592, rfl⟩
abbrev main_v428 : Ref sig .tc := ⟨.hbm, 593, rfl⟩
abbrev main_cst_51 : Ref sig .tc := ⟨.hbm, 594, rfl⟩
abbrev main_v429 : Ref sig .tc := ⟨.hbm, 595, rfl⟩
abbrev main_v430 : Ref sig .tc := ⟨.hbm, 596, rfl⟩
abbrev main_v431 : Ref sig .tc := ⟨.hbm, 597, rfl⟩
abbrev main_c_52 : Ref sig .tc := ⟨.hbm, 598, rfl⟩
abbrev main_c_53 : Ref sig .tc := ⟨.hbm, 599, rfl⟩
abbrev main_call10_v0 : Ref sig .tc := ⟨.hbm, 600, rfl⟩
abbrev main_call10_v1 : Ref sig .tc := ⟨.hbm, 601, rfl⟩
abbrev main_call10_v2 : Ref sig .tc := ⟨.hbm, 602, rfl⟩
abbrev main_call10_v3 : Ref sig .tc := ⟨.hbm, 603, rfl⟩
abbrev main_call10_v4 : Ref sig .tc := ⟨.hbm, 604, rfl⟩
abbrev main_v432 : Ref sig .tc := ⟨.hbm, 605, rfl⟩
abbrev main_v433 : Ref sig .tc := ⟨.hbm, 606, rfl⟩
abbrev main_c_54 : Ref sig .tc := ⟨.hbm, 607, rfl⟩
abbrev main_c_55 : Ref sig .tc := ⟨.hbm, 608, rfl⟩
abbrev main_call11_v0 : Ref sig .tc := ⟨.hbm, 609, rfl⟩
abbrev main_call11_v1 : Ref sig .tc := ⟨.hbm, 610, rfl⟩
abbrev main_call11_v2 : Ref sig .tc := ⟨.hbm, 611, rfl⟩
abbrev main_call11_v3 : Ref sig .tc := ⟨.hbm, 612, rfl⟩
abbrev main_call11_v4 : Ref sig .tc := ⟨.hbm, 613, rfl⟩
abbrev main_v434 : Ref sig .tc := ⟨.hbm, 614, rfl⟩
abbrev main_v435 : Ref sig .tc := ⟨.hbm, 615, rfl⟩
abbrev main_c_56 : Ref sig .tc := ⟨.hbm, 616, rfl⟩
abbrev main_v436 : Ref sig .tc := ⟨.hbm, 617, rfl⟩
abbrev main_v437 : Ref sig .tc := ⟨.hbm, 618, rfl⟩
abbrev main_v438 : Ref sig .tc := ⟨.hbm, 619, rfl⟩
abbrev main_v439 : Ref sig .tc := ⟨.hbm, 620, rfl⟩
abbrev main_call12_c : Ref sig .tc := ⟨.hbm, 621, rfl⟩
abbrev main_call12_v0 : Ref sig .tc := ⟨.hbm, 622, rfl⟩
abbrev main_call12_v1 : Ref sig .tc := ⟨.hbm, 623, rfl⟩
abbrev main_call12_c_0 : Ref sig .tc := ⟨.hbm, 624, rfl⟩
abbrev main_call12_v2 : Ref sig .tc := ⟨.hbm, 625, rfl⟩
abbrev main_call12_v3 : Ref sig .tc := ⟨.hbm, 626, rfl⟩
abbrev main_call12_v4 : Ref sig .tc := ⟨.hbm, 627, rfl⟩
abbrev main_call12_v5 : Ref sig .tc := ⟨.hbm, 628, rfl⟩
abbrev main_call12_c_1 : Ref sig .tc := ⟨.hbm, 629, rfl⟩
abbrev main_call12_c_2 : Ref sig .tc := ⟨.hbm, 630, rfl⟩
abbrev main_call12_v6 : Ref sig .tc := ⟨.hbm, 631, rfl⟩
abbrev main_call12_v7 : Ref sig .tc := ⟨.hbm, 632, rfl⟩
abbrev main_call12_v8 : Ref sig .tc := ⟨.hbm, 633, rfl⟩
abbrev main_call12_v9 : Ref sig .tc := ⟨.hbm, 634, rfl⟩
abbrev main_call12_v10 : Ref sig .tc := ⟨.hbm, 635, rfl⟩
abbrev main_call12_v11 : Ref sig .tc := ⟨.hbm, 636, rfl⟩
abbrev main_call12_c_3 : Ref sig .tc := ⟨.hbm, 637, rfl⟩
abbrev main_call12_v12 : Ref sig .tc := ⟨.hbm, 638, rfl⟩
abbrev main_call12_v13 : Ref sig .tc := ⟨.hbm, 639, rfl⟩
abbrev main_call12_v14 : Ref sig .tc := ⟨.hbm, 640, rfl⟩
abbrev main_call12_cst : Ref sig .tc := ⟨.hbm, 641, rfl⟩
abbrev main_call12_v15 : Ref sig .tc := ⟨.hbm, 642, rfl⟩
abbrev main_v440 : Ref sig .tc := ⟨.hbm, 643, rfl⟩
abbrev main_v441 : Ref sig .tc := ⟨.hbm, 644, rfl⟩
abbrev main_v442 : Ref sig .tc := ⟨.hbm, 645, rfl⟩
abbrev main_v443 : Ref sig .tc := ⟨.hbm, 646, rfl⟩
abbrev main_v444 : Ref sig .tc := ⟨.hbm, 647, rfl⟩
abbrev main_v445 : Ref sig .tc := ⟨.hbm, 648, rfl⟩
abbrev main_v446 : Ref sig .tc := ⟨.hbm, 649, rfl⟩
abbrev main_v447 : Ref sig .tc := ⟨.hbm, 650, rfl⟩
abbrev main_v448 : Ref sig .tc := ⟨.hbm, 651, rfl⟩
abbrev main_v449 : Ref sig .tc := ⟨.hbm, 652, rfl⟩
abbrev main_v450 : Ref sig .tc := ⟨.hbm, 653, rfl⟩
abbrev main_v451 : Ref sig .tc := ⟨.hbm, 654, rfl⟩
abbrev main_v452 : Ref sig .tc := ⟨.hbm, 655, rfl⟩
abbrev main_v453 : Ref sig .tc := ⟨.hbm, 656, rfl⟩
abbrev main_v454 : Ref sig .tc := ⟨.hbm, 657, rfl⟩
abbrev main_v455 : Ref sig .tc := ⟨.hbm, 658, rfl⟩
abbrev main_v456 : Ref sig .tc := ⟨.hbm, 659, rfl⟩
abbrev main_v457 : Ref sig .tc := ⟨.hbm, 660, rfl⟩
abbrev main_cst_57 : Ref sig .tc := ⟨.hbm, 661, rfl⟩
abbrev main_v458 : Ref sig .tc := ⟨.hbm, 662, rfl⟩
abbrev main_v459 : Ref sig .tc := ⟨.hbm, 663, rfl⟩
abbrev main_v460 : Ref sig .tc := ⟨.hbm, 664, rfl⟩
abbrev main_v461 : Ref sig .tc := ⟨.hbm, 665, rfl⟩
abbrev main_v462 : Ref sig .tc := ⟨.hbm, 666, rfl⟩
abbrev main_v463 : Ref sig .tc := ⟨.hbm, 667, rfl⟩
abbrev main_v464 : Ref sig .tc := ⟨.hbm, 668, rfl⟩
abbrev main_v465 : Ref sig .tc := ⟨.hbm, 669, rfl⟩
abbrev main_v466 : Ref sig .tc := ⟨.hbm, 670, rfl⟩
abbrev main_cst_58 : Ref sig .tc := ⟨.hbm, 671, rfl⟩
abbrev main_v467 : Ref sig .tc := ⟨.hbm, 672, rfl⟩
abbrev main_v468 : Ref sig .tc := ⟨.hbm, 673, rfl⟩
abbrev main_cst_59 : Ref sig .tc := ⟨.hbm, 674, rfl⟩
abbrev main_v469 : Ref sig .tc := ⟨.hbm, 675, rfl⟩
abbrev main_v470 : Ref sig .tc := ⟨.hbm, 676, rfl⟩
abbrev main_cst_60 : Ref sig .tc := ⟨.hbm, 677, rfl⟩
abbrev main_v471 : Ref sig .tc := ⟨.hbm, 678, rfl⟩
abbrev main_v472 : Ref sig .tc := ⟨.hbm, 679, rfl⟩
abbrev main_v473 : Ref sig .tc := ⟨.hbm, 680, rfl⟩
abbrev main_v474 : Ref sig .tc := ⟨.hbm, 681, rfl⟩
abbrev main_cst_61 : Ref sig .tc := ⟨.hbm, 682, rfl⟩
abbrev main_v475 : Ref sig .tc := ⟨.hbm, 683, rfl⟩
abbrev main_v476 : Ref sig .tc := ⟨.hbm, 684, rfl⟩
abbrev main_cst_62 : Ref sig .tc := ⟨.hbm, 685, rfl⟩
abbrev main_v477 : Ref sig .tc := ⟨.hbm, 686, rfl⟩
abbrev main_v478 : Ref sig .tc := ⟨.hbm, 687, rfl⟩
abbrev main_cst_63 : Ref sig .tc := ⟨.hbm, 688, rfl⟩
abbrev main_v479 : Ref sig .tc := ⟨.hbm, 689, rfl⟩
abbrev main_v480 : Ref sig .tc := ⟨.hbm, 690, rfl⟩
abbrev main_v481 : Ref sig .tc := ⟨.hbm, 691, rfl⟩
abbrev main_v482 : Ref sig .tc := ⟨.hbm, 692, rfl⟩
abbrev main_v483 : Ref sig .tc := ⟨.hbm, 693, rfl⟩
abbrev main_v484 : Ref sig .tc := ⟨.hbm, 694, rfl⟩
abbrev main_v485 : Ref sig .tc := ⟨.hbm, 695, rfl⟩
abbrev main_v486 : Ref sig .tc := ⟨.hbm, 696, rfl⟩
abbrev main_v487 : Ref sig .tc := ⟨.hbm, 697, rfl⟩
abbrev main_v488 : Ref sig .tc := ⟨.hbm, 698, rfl⟩
abbrev main_v489 : Ref sig .tc := ⟨.hbm, 699, rfl⟩
abbrev main_v490 : Ref sig .tc := ⟨.hbm, 700, rfl⟩
abbrev main_v491 : Ref sig .tc := ⟨.hbm, 701, rfl⟩
abbrev main_v492 : Ref sig .tc := ⟨.hbm, 702, rfl⟩
abbrev main_v493 : Ref sig .tc := ⟨.hbm, 703, rfl⟩
abbrev main_v494 : Ref sig .tc := ⟨.hbm, 704, rfl⟩
abbrev main_v495 : Ref sig .tc := ⟨.hbm, 705, rfl⟩
abbrev main_v496 : Ref sig .tc := ⟨.hbm, 706, rfl⟩
abbrev main_v497 : Ref sig .tc := ⟨.hbm, 707, rfl⟩
abbrev main_cst_64 : Ref sig .tc := ⟨.hbm, 708, rfl⟩
abbrev main_v498 : Ref sig .tc := ⟨.hbm, 709, rfl⟩
abbrev main_v499 : Ref sig .tc := ⟨.hbm, 710, rfl⟩
abbrev main_v500 : Ref sig .tc := ⟨.hbm, 711, rfl⟩
abbrev main_v501 : Ref sig .tc := ⟨.hbm, 712, rfl⟩
abbrev main_v502 : Ref sig .tc := ⟨.hbm, 713, rfl⟩
abbrev main_v503 : Ref sig .tc := ⟨.hbm, 714, rfl⟩
abbrev main_v504 : Ref sig .tc := ⟨.hbm, 715, rfl⟩
abbrev main_v505 : Ref sig .tc := ⟨.hbm, 716, rfl⟩
abbrev main_v506 : Ref sig .tc := ⟨.hbm, 717, rfl⟩
abbrev main_call13_cst : Ref sig .tc := ⟨.hbm, 718, rfl⟩
abbrev main_call13_v0 : Ref sig .tc := ⟨.hbm, 719, rfl⟩
abbrev main_v507 : Ref sig .tc := ⟨.hbm, 720, rfl⟩
abbrev main_v508 : Ref sig .tc := ⟨.hbm, 721, rfl⟩
abbrev main_v509 : Ref sig .tc := ⟨.hbm, 722, rfl⟩
abbrev main_v510 : Ref sig .tc := ⟨.hbm, 723, rfl⟩
abbrev main_v511 : Ref sig .tc := ⟨.hbm, 724, rfl⟩
abbrev main_v512 : Ref sig .tc := ⟨.hbm, 725, rfl⟩
abbrev main_call14_cst : Ref sig .tc := ⟨.hbm, 726, rfl⟩
abbrev main_call14_v0 : Ref sig .tc := ⟨.hbm, 727, rfl⟩
abbrev main_v513 : Ref sig .tc := ⟨.hbm, 728, rfl⟩
abbrev main_v514 : Ref sig .tc := ⟨.hbm, 729, rfl⟩
abbrev main_v515 : Ref sig .tc := ⟨.hbm, 730, rfl⟩
abbrev main_v516 : Ref sig .tc := ⟨.hbm, 731, rfl⟩
abbrev main_v517 : Ref sig .tc := ⟨.hbm, 732, rfl⟩
abbrev main_v518 : Ref sig .tc := ⟨.hbm, 733, rfl⟩
abbrev main_v519 : Ref sig .tc := ⟨.hbm, 734, rfl⟩
abbrev main_v520 : Ref sig .tc := ⟨.hbm, 735, rfl⟩
abbrev main_cst_65 : Ref sig .tc := ⟨.hbm, 736, rfl⟩
abbrev main_v521 : Ref sig .tc := ⟨.hbm, 737, rfl⟩
abbrev main_v522 : Ref sig .tc := ⟨.hbm, 738, rfl⟩
abbrev main_v523 : Ref sig .tc := ⟨.hbm, 739, rfl⟩
abbrev main_v524 : Ref sig .tc := ⟨.hbm, 740, rfl⟩
abbrev main_cst_66 : Ref sig .tc := ⟨.hbm, 741, rfl⟩
abbrev main_v525 : Ref sig .tc := ⟨.hbm, 742, rfl⟩
abbrev main_cst_67 : Ref sig .tc := ⟨.hbm, 743, rfl⟩
abbrev main_v526 : Ref sig .tc := ⟨.hbm, 744, rfl⟩
abbrev main_v527 : Ref sig .tc := ⟨.hbm, 745, rfl⟩
abbrev main_v528 : Ref sig .tc := ⟨.hbm, 746, rfl⟩
abbrev main_v529 : Ref sig .tc := ⟨.hbm, 747, rfl⟩
abbrev main_v530 : Ref sig .tc := ⟨.hbm, 748, rfl⟩
abbrev main_v531 : Ref sig .tc := ⟨.hbm, 749, rfl⟩
abbrev main_cst_68 : Ref sig .tc := ⟨.hbm, 750, rfl⟩
abbrev main_v532 : Ref sig .tc := ⟨.hbm, 751, rfl⟩
abbrev main_v533 : Ref sig .tc := ⟨.hbm, 752, rfl⟩
abbrev main_v534 : Ref sig .tc := ⟨.hbm, 753, rfl⟩
abbrev main_v535 : Ref sig .tc := ⟨.hbm, 754, rfl⟩
abbrev main_v536 : Ref sig .tc := ⟨.hbm, 755, rfl⟩
abbrev main_v537 : Ref sig .tc := ⟨.hbm, 756, rfl⟩
abbrev main_v538 : Ref sig .tc := ⟨.hbm, 757, rfl⟩
abbrev main_v539 : Ref sig .tc := ⟨.hbm, 758, rfl⟩
abbrev main_v540 : Ref sig .tc := ⟨.hbm, 759, rfl⟩
abbrev main_v541 : Ref sig .tc := ⟨.hbm, 760, rfl⟩
abbrev main_v542 : Ref sig .tc := ⟨.hbm, 761, rfl⟩
abbrev main_v543 : Ref sig .tc := ⟨.hbm, 762, rfl⟩

abbrev nD : Nat := 1
abbrev τ : Topo := Topo.v7x

variable {F : FTy → Type} [FloatOps F]
-- ==== Proof.Consts.lean ====
/- The float literals the two programs spell, as the extended reals their words denote. -/
module

public import Idealize.ShloMosaic.PureOps.Ideal

@[expose] public section

noncomputable section

namespace Cert.Consts

open Idealize.ShloMosaic

/-- The word of `0.5` denotes one half. -/
theorem half : Ideal.ofBits .f32 0x3F000000#32 = ((1 / 2 : ℝ) : EReal) := by
  simp [Ideal.ofBits, Ideal.ieee, -EReal.coe_mul]; norm_num

/-- The word of `2.0` denotes two. -/
theorem two : Ideal.ofBits .f32 0x40000000#32 = ((2 : ℝ) : EReal) := by
  simp [Ideal.ofBits, Ideal.ieee, -EReal.coe_mul]; norm_num

/-- The word of `4.0` denotes four. -/
theorem four : Ideal.ofBits .f32 0x40800000#32 = ((4 : ℝ) : EReal) := by
  simp [Ideal.ofBits, Ideal.ieee, -EReal.coe_mul]; norm_num

/-- The word of `5.0` denotes five. -/
theorem five : Ideal.ofBits .f32 0x40A00000#32 = ((5 : ℝ) : EReal) := by
  simp [Ideal.ofBits, Ideal.ieee, -EReal.coe_mul]; norm_num

/-- The word of `23.0` denotes twenty-three. -/
theorem c23 : Ideal.ofBits .f32 0x41B80000#32 = ((23 : ℝ) : EReal) := by
  simp [Ideal.ofBits, Ideal.ieee, -EReal.coe_mul]; norm_num

/-- The word of `24.0` denotes twenty-four. -/
theorem c24 : Ideal.ofBits .f32 0x41C00000#32 = ((24 : ℝ) : EReal) := by
  simp [Ideal.ofBits, Ideal.ieee, -EReal.coe_mul]; norm_num

/-- The word of `-1.0` denotes minus one. -/
theorem negOne : Ideal.ofBits .f32 0xBF800000#32 = ((-1 : ℝ) : EReal) := by
  simp [Ideal.ofBits, Ideal.ieee, -EReal.coe_mul]; norm_num

/-- The word of `-inf` denotes the least extended real. -/
theorem negInf : Ideal.ofBits .f32 0xFF800000#32 = (⊥ : EReal) := by
  simp [Ideal.ofBits, Ideal.ieee, -EReal.coe_mul]

/-- The word of `96 ^ (-1/2)` denotes a positive real. -/
theorem scale : ∃ r : ℝ, 0 < r ∧ Ideal.ofBits .f32 0x3DD105EC#32 = (r : EReal) := by
  refine ⟨13698540 / 2 ^ 27, by norm_num, ?_⟩
  simp [Ideal.ofBits, Ideal.ieee, -EReal.coe_mul]; norm_num

end Cert.Consts

end
-- ==== Proof.Spec.lean ====
/- The computation of one batch entry and one group, as plain functions of indices over the extended reals. Neither
   program occurs here: both are shown equal to these functions. -/
module

public import Idealize.ShloMosaic.PureOps.Ideal

@[expose] public section

noncomputable section

namespace Cert.Spec

open Idealize.ShloMosaic

/-- The pixel row or column nearest to the integer `z` inside a side of 24. -/
def cl (z : ℤ) : Fin 24 := ⟨(min 23 (max 0 z)).toNat, by omega⟩

/-- The flat pixel index that the (clipped) column `zx` and row `zy` name. -/
def pixel (zx zy : ℤ) : Fin 576 := ⟨(cl zy).val * 24 + (cl zx).val, by have := (cl zy).isLt; have := (cl zx).isLt; omega⟩

/-- The column `zx` and row `zy` lie in the image. -/
def Ok (zx zy : ℤ) : Prop := 0 ≤ zx ∧ zx ≤ 23 ∧ 0 ≤ zy ∧ zy ≤ 23

instance (zx zy : ℤ) : Decidable (Ok zx zy) := inferInstanceAs (Decidable (_ ∧ _))

/-- One corner of the bilinear sample: the pixel's value, zero outside the image, times the corner's weight. -/
def corner (X : Fin 576 → EReal) (zx zy : ℤ) (w : ℝ) : EReal :=
  X (pixel zx zy) * (if Ok zx zy then 1 else 0) * (w : EReal)

/-- The bilinear sample of the image `X` at column coordinate `u` and row coordinate `v`, zeros outside. -/
def sample (X : Fin 576 → EReal) (u v : ℝ) : EReal :=
  corner X ⌊u⌋ ⌊v⌋ ((1 - (u - ⌊u⌋)) * (1 - (v - ⌊v⌋)))
    + corner X (⌊u⌋ + 1) ⌊v⌋ ((u - ⌊u⌋) * (1 - (v - ⌊v⌋)))
    + corner X ⌊u⌋ (⌊v⌋ + 1) ((1 - (u - ⌊u⌋)) * (v - ⌊v⌋))
    + corner X (⌊u⌋ + 1) (⌊v⌋ + 1) ((u - ⌊u⌋) * (v - ⌊v⌋))

/-- The exact gelu, by the error function. -/
def gelu (y : EReal) : EReal :=
  y * ((1 / 2 : ℝ) : EReal) * (1 + Ideal.erf (y * (((Real.sqrt 2)⁻¹ : ℝ) : EReal)))

/-- A coordinate of the 6-wide sampling grid, moved by the offset `o` and scaled to `[-1, 1]`. -/
def kgrid (k : ℕ) (o : EReal) : EReal :=
  Ideal.div (((2 : ℝ) : EReal) * (((k : ℝ) : EReal) + o)) ((5 : ℝ) : EReal) - 1

/-- A coordinate of the 24-wide query grid scaled to `[-1, 1]`. -/
def qgrid (k : ℕ) : EReal := Ideal.div (((2 : ℝ) : EReal) * ((k : ℝ) : EReal)) ((23 : ℝ) : EReal) - 1

/-- A scaled coordinate taken back to pixel units (the corners of the image are not aligned to pixel centres). -/
def unscale (g : EReal) : EReal := ((g + 1) * ((24 : ℝ) : EReal) - 1) * ((1 / 2 : ℝ) : EReal)

/-- The signed logarithm of a relative position. -/
def slog (p : EReal) : EReal := Ideal.sign p * Ideal.log (max p (-p) + 1)

/-- The zero-padded 26 by 26 image of a 24 by 24 one. -/
def padded (q : Fin 576 → Fin 96 → EReal) (r s : Fin 26) (c : Fin 96) : EReal :=
  if h : 1 ≤ r.val ∧ r.val < 25 ∧ 1 ≤ s.val ∧ s.val < 25 then
    q ⟨(r.val - 1) * 24 + (s.val - 1), by omega⟩ c
  else 0

/-- The row of the 6 by 6 grid that the flat index `j` lies in. -/
def row6 (j : Fin 36) : Fin 6 := ⟨j.val / 6, by omega⟩

/-- The column of the 6 by 6 grid that the flat index `j` lies in. -/
def col6 (j : Fin 36) : Fin 6 := ⟨j.val % 6, by omega⟩

/-- One output of the depthwise convolution with stride 4: the 6 by 6 window at grid point `(oy, ox)`, channel `c`. -/
def window (P : Fin 26 → Fin 26 → Fin 96 → EReal) (w : Fin 6 → Fin 6 → Fin 96 → EReal) (oy ox : Fin 6) (c : Fin 96) :
    EReal :=
  ∑ a : Fin 6, ∑ b : Fin 6, P ⟨4 * oy.val + a.val, by omega⟩ ⟨4 * ox.val + b.val, by omega⟩ c * w a b c

/-- What one batch entry and one group compute from: the image of the group's channels, the group's projections, and
    the shared weights of the offset network and of the position network. -/
structure Data where
  /-- channels by pixels -/
  x : Fin 96 → Fin 576 → EReal
  /-- query projection, output by input channel -/
  wq : Fin 96 → Fin 96 → EReal
  /-- key projection, with the attention scale in it -/
  wk : Fin 96 → Fin 96 → EReal
  /-- value projection -/
  wv : Fin 96 → Fin 96 → EReal
  /-- depthwise window -/
  w1 : Fin 6 → Fin 6 → Fin 96 → EReal
  /-- depthwise bias -/
  b1 : Fin 96 → EReal
  /-- offset projection: row and column offset by channel -/
  w2 : Fin 2 → Fin 96 → EReal
  /-- first layer of the position network: column and row position by hidden unit -/
  c1 : Fin 2 → Fin 192 → EReal
  /-- its bias -/
  d1 : Fin 192 → EReal
  /-- second layer, output by input unit -/
  c2 : Fin 192 → Fin 192 → EReal
  /-- its bias -/
  d2 : Fin 192 → EReal
  /-- third layer -/
  c3 : Fin 192 → EReal
  /-- its bias -/
  d3 : EReal
  /-- the group's columns of the output projection -/
  wo : Fin 768 → Fin 96 → EReal

namespace Data

variable (D : Data)

/-- The queries, pixel by channel. -/
def q (n : Fin 576) (c : Fin 96) : EReal := ∑ d : Fin 96, D.x d n * D.wq c d

/-- The depthwise convolution of the queries, with its bias. -/
def conv (j : Fin 36) (c : Fin 96) : EReal := window (padded D.q) D.w1 (row6 j) (col6 j) c + D.b1 c

/-- The offsets of the sampling points: row offset at `0`, column offset at `1`. -/
def off (a : Fin 2) (j : Fin 36) : EReal :=
  Ideal.tanh (∑ c : Fin 96, D.w2 a c * gelu (D.conv j c)) * ((4 : ℝ) : EReal)

/-- The row coordinate of sampling point `j`. -/
def gy (j : Fin 36) : EReal := kgrid (j.val / 6) (D.off 0 j)

/-- The column coordinate of sampling point `j`. -/
def gx (j : Fin 36) : EReal := kgrid (j.val % 6) (D.off 1 j)

/-- The sampled image. -/
def kv (d : Fin 96) (j : Fin 36) : EReal := sample (D.x d) (unscale (D.gx j)).toReal (unscale (D.gy j)).toReal

/-- The keys, channel by sampling point. -/
def kb (d : Fin 96) (j : Fin 36) : EReal := ∑ e : Fin 96, D.wk d e * D.kv e j

/-- The values, channel by sampling point. -/
def vb (d : Fin 96) (j : Fin 36) : EReal := ∑ e : Fin 96, D.wv d e * D.kv e j

/-- The first layer of the position network at column position `fx` and row position `fy`. -/
def h1 (fx fy : EReal) (e : Fin 192) : EReal := max (fx * D.c1 0 e + (fy * D.c1 1 e + D.d1 e)) 0

/-- The first two layers of the position network. -/
def h2 (fx fy : EReal) (e : Fin 192) : EReal := max ((∑ k : Fin 192, D.h1 fx fy k * D.c2 e k) + D.d2 e) 0

/-- The relative column position of pixel `n` and sampling point `j`, in signed logarithm. -/
def fx (n : Fin 576) (j : Fin 36) : EReal := slog (qgrid (n.val % 24) - D.gx j)

/-- The relative row position of pixel `n` and sampling point `j`, in signed logarithm. -/
def fy (n : Fin 576) (j : Fin 36) : EReal := slog (qgrid (n.val / 24) - D.gy j)

/-- The position bias before its last constant. -/
def bias (n : Fin 576) (j : Fin 36) : EReal := ∑ e : Fin 192, D.h2 (D.fx n j) (D.fy n j) e * D.c3 e

/-- The attention logits. -/
def sim (n : Fin 576) (j : Fin 36) : EReal := (∑ d : Fin 96, D.q n d * D.kb d j) + (D.bias n j + D.d3)

/-- The greatest logit of a pixel. -/
def top (n : Fin 576) : EReal := Finset.univ.fold max (⊥ : EReal) (D.sim n)

/-- The attention weights. -/
def attn (n : Fin 576) (j : Fin 36) : EReal :=
  Ideal.div (Ideal.exp (D.sim n j - D.top n)) (∑ k : Fin 36, Ideal.exp (D.sim n k - D.top n))

/-- The group's attention output, channel by pixel. -/
def out (d : Fin 96) (n : Fin 576) : EReal := ∑ j : Fin 36, D.vb d j * D.attn n j

/-- What the group adds to output channel `o` at pixel `n`. -/
def part (o : Fin 768) (n : Fin 576) : EReal := ∑ d : Fin 96, D.wo o d * D.out d n

end Data

end Cert.Spec

end
-- ==== Proof.KConv.lean ====
/- The kernel's query projection, depthwise convolution and offsets, read at an index. -/
module

public import proofs.«01_k».proof.Proof.Gen.KernelIdeal.Skeleton
public import proofs.«01_k».proof.Proof.Consts
public import proofs.«01_k».proof.Proof.Spec
public import Idealize.ShloMosaic.Lib.Pointwise

@[expose] public section

set_option maxRecDepth 16384

noncomputable section

namespace Cert.KernelIdeal.Pay

open Idealize.ShloMosaic Cert.KernelIdeal Cert.KernelIdeal.Gen Cert.Spec

/-- The kernel's named constant is the reciprocal of the root of two. -/
theorem inv_sqrt_two :
    Named.named (F := Ideal) Cert.KernelIdeal.κ "inv_sqrt_two" (φ := .f32) 0x3F3504F3#32
      = (((Real.sqrt 2)⁻¹ : ℝ) : EReal) :=
  IdealRules.named_const.ideal_named_scalar _ _ _ _ rfl

/-- The query projection. -/
theorem pay5 (D : Data) (v0 : Vec Ideal S1x1x96x576 .f32) (v2 : Vec Ideal S1x96x96 .f32)
    (hx : ∀ d n, v0 (ix4 0 0 d n) = D.x d n) (hw : ∀ c d, v2 (ix3 0 c d) = D.wq c d) (n : Fin 576) (c : Fin 96) :
    k0_pay5 v0 v2 (ix2 n c) = D.q n c := by
  pointwise [k0_pay5, k0_pay4]
  simp only [hx, hw, Data.q]

/-- The zero-padded queries. -/
theorem pay6 (D : Data) (v0 : Vec Ideal S1x1x96x576 .f32) (v2 : Vec Ideal S1x96x96 .f32)
    (hx : ∀ d n, v0 (ix4 0 0 d n) = D.x d n) (hw : ∀ c d, v2 (ix3 0 c d) = D.wq c d) (r s : Fin 26) (c : Fin 96) :
    k0_pay6 v0 v2 (ix3 r s c) = padded D.q r s c := by
  have hq := pay5 D v0 v2 hx hw
  unfold k0_pay6
  generalize k0_pay5 v0 v2 = q at hq ⊢
  pointwise []
  unfold padded
  by_cases h1 : 1 ≤ r.val ∧ r.val < 25 ∧ 1 ≤ s.val ∧ s.val < 25
  · rw [dif_pos h1, dif_neg (by omega), dif_pos (by omega), dif_neg (by omega), dif_pos (by omega), hq]
  · rw [dif_neg h1]
    split_ifs <;> first | rfl | (exfalso; omega)

/-- A sum over the two window axes. -/
theorem sum_window (f : S6x6x96.Idx → EReal) (c : Fin 96) :
    Ideal.reduceAdd reduces_S6x6x96_S96 f (ix1 c) = ∑ a : Fin 6, ∑ b : Fin 6, f (ix3 a b c) := by
  rw [← Fintype.sum_prod_type' (f := fun a b => f (ix3 a b c))]
  refine Finset.sum_filter_eq_sum_of_fiber _ (fun k : Fin 6 × Fin 6 => (ix3 k.1 k.2 c : S6x6x96.Idx))
    (fun p q e => Prod.ext (congrFun e 0) (congrFun e 1)) (fun i => ?_) f
  constructor
  · intro e
    refine ⟨(i 0, i 1), ?_⟩
    funext a; apply Fin.ext
    match a with
    | ⟨0, _⟩ => rfl
    | ⟨1, _⟩ => rfl
    | ⟨2, _⟩ => exact (congrArg Fin.val (congrFun e ⟨0, by decide⟩)).symm
  · rintro ⟨k, rfl⟩
    funext b
    apply Fin.ext
    match b with
    | ⟨0, _⟩ => rfl

/-- One window of the depthwise convolution, as the kernel sums it. -/
theorem patch (P : Fin 26 → Fin 26 → Fin 96 → EReal) (w : Fin 6 → Fin 6 → Fin 96 → EReal)
    (v11 : FVec Ideal S26x26x96 .f32) (v13 : FVec Ideal S6x6x96 .f32)
    (hP : ∀ r s c, v11 (ix3 r s c) = P r s c) (hw : ∀ a b c, v13 (ix3 a b c) = w a b c)
    (oy ox : Fin 6) (h : S26x26x96.Slices ![4 * oy.val, 4 * ox.val, 0] S6x6x96) (c : Fin 96) :
    shapeCast S1x96 (shapeCast S1x1x96 (multiReduction .add [0, 1] S96
        (mulf (extractStridedSlice S6x6x96 ![4 * oy.val, 4 * ox.val, 0] v11 h) v13) 0x00000000#32
        reduces_S6x6x96_S96 (.inl rfl) rfl) shapeCasts_S96_S1x1x96) shapeCasts_S1x1x96_S1x96 (ix2 0 c)
      = window P w oy ox c := by
  pointwise []
  rw [sum_window]
  unfold window
  refine Finset.sum_congr rfl fun a _ => Finset.sum_congr rfl fun b _ => ?_
  pointwise []
  rw [hP, hw]

/-- Every window of the grid lies in the padded image. -/
theorem window_slices : ∀ oy ox : Fin 6, S26x26x96.Slices ![4 * oy.val, 4 * ox.val, 0] S6x6x96 := by decide

/-- The 36 windows of the depthwise convolution, as the kernel makes them one by one. -/
def pieces (v11 : FVec Ideal S26x26x96 .f32) (v13 : FVec Ideal S6x6x96 .f32) (j : Fin 36) : FVec Ideal S1x96 .f32 :=
  shapeCast S1x96 (shapeCast S1x1x96 (multiReduction .add [0, 1] S96
    (mulf (extractStridedSlice S6x6x96 ![4 * (row6 j).val, 4 * (col6 j).val, 0] v11 (window_slices (row6 j) (col6 j))) v13)
    0x00000000#32 reduces_S6x6x96_S96 (.inl rfl) rfl) shapeCasts_S96_S1x1x96) shapeCasts_S1x1x96_S1x96

/-- The kernel's offsets, over the blocks it loads. -/
def offs (v0 : Vec Ideal S1x1x96x576 .f32) (v2 : Vec Ideal S1x96x96 .f32) (v12 : Vec Ideal S6x6x96 .f32)
    (v195 : Vec Ideal S1x96 .f32) (v207 : Vec Ideal S2x96 .f32) : FVec Ideal S2x36 .f32 :=
  k0_pay46 (k0_pay6 v0 v2) (k0_pay7 v12) (k0_pay8 v0 v2 v12) (k0_pay9 v0 v2 v12) (k0_pay10 v0 v2 v12) (k0_pay11 v0 v2
    v12) (k0_pay13 (k0_pay12 v0 v2 v12)) (k0_pay14 (k0_pay6 v0 v2) (k0_pay7 v12)) (k0_pay15 (k0_pay6 v0 v2) (k0_pay7
    v12)) (k0_pay16 (k0_pay6 v0 v2) (k0_pay7 v12)) (k0_pay17 (k0_pay6 v0 v2) (k0_pay7 v12)) (k0_pay18 (k0_pay6 v0 v2)
    (k0_pay7 v12)) (k0_pay19 (k0_pay6 v0 v2) (k0_pay7 v12)) (k0_pay20 (k0_pay6 v0 v2) (k0_pay7 v12)) (k0_pay21
    (k0_pay6 v0 v2) (k0_pay7 v12)) (k0_pay22 (k0_pay6 v0 v2) (k0_pay7 v12)) (k0_pay24 (k0_pay23 (k0_pay6 v0 v2)
    (k0_pay7 v12))) (k0_pay25 (k0_pay6 v0 v2) (k0_pay7 v12)) (k0_pay26 (k0_pay6 v0 v2) (k0_pay7 v12)) (k0_pay27
    (k0_pay6 v0 v2) (k0_pay7 v12)) (k0_pay28 (k0_pay6 v0 v2) (k0_pay7 v12)) (k0_pay29 (k0_pay6 v0 v2) (k0_pay7 v12))
    (k0_pay30 (k0_pay6 v0 v2) (k0_pay7 v12)) (k0_pay31 (k0_pay6 v0 v2) (k0_pay7 v12)) (k0_pay32 (k0_pay6 v0 v2)
    (k0_pay7 v12)) (k0_pay33 (k0_pay6 v0 v2) (k0_pay7 v12)) (k0_pay35 (k0_pay34 (k0_pay6 v0 v2) (k0_pay7 v12)))
    (k0_pay36 (k0_pay6 v0 v2) (k0_pay7 v12)) (k0_pay37 (k0_pay6 v0 v2) (k0_pay7 v12)) (k0_pay38 (k0_pay6 v0 v2)
    (k0_pay7 v12)) (k0_pay39 (k0_pay6 v0 v2) (k0_pay7 v12)) (k0_pay40 (k0_pay6 v0 v2) (k0_pay7 v12)) (k0_pay41
    (k0_pay6 v0 v2) (k0_pay7 v12)) (k0_pay42 (k0_pay6 v0 v2) (k0_pay7 v12)) (k0_pay43 (k0_pay6 v0 v2) (k0_pay7 v12))
    (k0_pay44 (k0_pay6 v0 v2) (k0_pay7 v12)) (k0_pay45 (k0_pay6 v0 v2) (k0_pay7 v12)) v195 v207

/-- Each piece is its window of the convolution. -/
theorem pieces_apply (D : Data) (v0 : Vec Ideal S1x1x96x576 .f32) (v2 : Vec Ideal S1x96x96 .f32)
    (v12 : Vec Ideal S6x6x96 .f32) (hx : ∀ d n, v0 (ix4 0 0 d n) = D.x d n) (hw : ∀ c d, v2 (ix3 0 c d) = D.wq c d)
    (h1 : ∀ a b c, v12 (ix3 a b c) = D.w1 a b c) (j : Fin 36) (c : Fin 96) :
    pieces (k0_pay6 v0 v2) (k0_pay7 v12) j (ix2 0 c) = window (padded D.q) D.w1 (row6 j) (col6 j) c :=
  patch (padded D.q) D.w1 _ _ (pay6 D v0 v2 hx hw)
    (fun a b c => by pointwise [k0_pay7]; exact h1 a b c) (row6 j) (col6 j) _ c

/-- Thirty-six rows stacked: row `j` of the stack is row `j`. -/
theorem stack_apply (f : Fin 36 → FVec Ideal S1x96 .f32)
    (h : Shape.Concatenates ((List.ofFn fun n : Fin 36 => (⟨S1x96, f n⟩ : (s : Shape) × (s.Idx → EReal))).map (·.1)) S36x96 0)
    (j : Fin 36) (c : Fin 96) :
    concatenate S36x96 0 (List.ofFn fun n : Fin 36 => (⟨S1x96, f n⟩ : (s : Shape) × (s.Idx → EReal))) h (ix2 j c)
      = f j (ix2 0 c) := by
  refine (concatenate_ofFn_unit_apply' 0 f h rfl (ix2 j c)).trans (congrArg (f j) ?_)
  funext b
  match b with
  | ⟨0, _⟩ => rfl
  | ⟨1, _⟩ => rfl

/-- The offsets from the stacked windows. -/
def offsTail (v194 : FVec Ideal S36x96 .f32) (v195 : Vec Ideal S1x96 .f32) (v207 : Vec Ideal S2x96 .f32) :
    FVec Ideal S2x36 .f32 :=
  have v198 := addf v194 (broadcastTo S36x96 (shapeCast S1x96 v195 shapeCasts_S1x96_S1x96) broadcasts_S1x96_S36x96)
  have v200 := mulf v198 (broadcast S36x96 (Scalar.ofBits .f32 0x3F000000#32))
  have v202 := mulf v198 (broadcast S36x96 (Named.named (F := Ideal) κ "inv_sqrt_two" (φ := .f32) 0x3F3504F3#32))
  have v205 := addf (broadcast S36x96 (Scalar.ofBits .f32 0x3F800000#32)) (erf v202)
  have v209 := matmul (φ₁ := .f32) dot_S2x96_S36x96_S2x36_1_1_0_0_n_n (some .fp32) (shapeCast S2x96 v207 shapeCasts_S2x96_S2x96)
    (mulf v200 v205) (constant S2x36 .f32 0x00000000#32)
  mulf (tanh v209) (broadcast S2x36 (Scalar.ofBits .f32 0x40800000#32))

/-- The offsets from the stacked windows are the offsets. -/
theorem offsTail_apply (D : Data) (v194 : FVec Ideal S36x96 .f32) (v195 : Vec Ideal S1x96 .f32) (v207 : Vec Ideal S2x96 .f32)
    (hc : ∀ j c, v194 (ix2 j c) = window (padded D.q) D.w1 (row6 j) (col6 j) c) (hb : ∀ c, v195 (ix2 0 c) = D.b1 c)
    (h2 : ∀ a c, v207 (ix2 a c) = D.w2 a c) (a : Fin 2) (j : Fin 36) :
    offsTail v194 v195 v207 (ix2 a j) = D.off a j := by
  pointwise [offsTail]
  simp only [hc, hb, h2, Data.off, Data.conv, gelu, inv_sqrt_two, Consts.four, Consts.half]
  rfl

/-- The kernel's offsets are the offsets. -/
theorem offs_apply (D : Data) (v0 : Vec Ideal S1x1x96x576 .f32) (v2 : Vec Ideal S1x96x96 .f32)
    (v12 : Vec Ideal S6x6x96 .f32) (v195 : Vec Ideal S1x96 .f32) (v207 : Vec Ideal S2x96 .f32)
    (hx : ∀ d n, v0 (ix4 0 0 d n) = D.x d n) (hw : ∀ c d, v2 (ix3 0 c d) = D.wq c d)
    (h1 : ∀ a b c, v12 (ix3 a b c) = D.w1 a b c) (hb : ∀ c, v195 (ix2 0 c) = D.b1 c)
    (h2 : ∀ a c, v207 (ix2 a c) = D.w2 a c) (a : Fin 2) (j : Fin 36) :
    offs v0 v2 v12 v195 v207 (ix2 a j) = D.off a j := by
  refine offsTail_apply D _ v195 v207 (fun j c => ?_) hb h2 a j
  exact (stack_apply (pieces (k0_pay6 v0 v2) (k0_pay7 v12)) _ j c).trans (pieces_apply D v0 v2 v12 hx hw h1 j c)

end Cert.KernelIdeal.Pay

end
-- ==== Proof.Algebra.lean ====
/- Facts of extended-real arithmetic that join the two programs. -/
module

public import proofs.«01_k».proof.Proof.Spec

@[expose] public section

noncomputable section

namespace Cert.Algebra

open Idealize.ShloMosaic Cert.Spec

/-- The hyperbolic tangent of any extended real is a real. -/
theorem tanh_real (x : EReal) : ∃ r : ℝ, Ideal.tanh x = (r : EReal) := by
  induction x with
  | bot => exact ⟨-1, by simp⟩
  | top => exact ⟨1, by simp⟩
  | coe a => exact ⟨Real.tanh a, rfl⟩

/-- The offsets are reals, whatever the inputs are. -/
theorem off_real (D : Data) (a : Fin 2) (j : Fin 36) : ∃ r : ℝ, D.off a j = (r : EReal) := by
  obtain ⟨r, hr⟩ := tanh_real (∑ c : Fin 96, D.w2 a c * gelu (D.conv j c))
  exact ⟨r * 4, by unfold Data.off; rw [hr, ← EReal.coe_mul]⟩

/-- A grid coordinate with a real offset is a real. -/
theorem kgrid_real (k : ℕ) (o : ℝ) : ∃ r : ℝ, kgrid k (o : EReal) = (r : EReal) :=
  ⟨2 * (k + o) * (1 / 5) - 1, by
    unfold kgrid
    rw [Ideal.div_coe (by norm_num), ← EReal.coe_add, ← EReal.coe_mul, ← EReal.coe_mul, ← EReal.coe_one, ← EReal.coe_sub]⟩

/-- A query coordinate is a real. -/
theorem qgrid_real (k : ℕ) : ∃ r : ℝ, qgrid k = (r : EReal) :=
  ⟨2 * k * (1 / 23) - 1, by
    unfold qgrid
    rw [Ideal.div_coe (by norm_num), ← EReal.coe_mul, ← EReal.coe_mul, ← EReal.coe_one, ← EReal.coe_sub]⟩

/-- The row coordinates are reals. -/
theorem gy_real (D : Data) (j : Fin 36) : ∃ r : ℝ, D.gy j = (r : EReal) := by
  obtain ⟨r, hr⟩ := off_real D 0 j
  unfold Data.gy; rw [hr]; exact kgrid_real _ _

/-- The column coordinates are reals. -/
theorem gx_real (D : Data) (j : Fin 36) : ∃ r : ℝ, D.gx j = (r : EReal) := by
  obtain ⟨r, hr⟩ := off_real D 1 j
  unfold Data.gx; rw [hr]; exact kgrid_real _ _

/-- A real coordinate stays real in pixel units. -/
theorem unscale_real (r : ℝ) : ∃ u : ℝ, unscale (r : EReal) = (u : EReal) :=
  ⟨((r + 1) * 24 - 1) * (1 / 2), by
    unfold unscale
    rw [← EReal.coe_one, ← EReal.coe_add, ← EReal.coe_mul, ← EReal.coe_sub, ← EReal.coe_mul]⟩

/-- The pixel column of a sampling point is a real. -/
theorem px_real (D : Data) (j : Fin 36) : unscale (D.gx j) = (((unscale (D.gx j)).toReal : ℝ) : EReal) := by
  obtain ⟨r, hr⟩ := gx_real D j
  obtain ⟨u, hu⟩ := unscale_real r
  rw [hr, hu, EReal.toReal_coe]

/-- The pixel row of a sampling point is a real. -/
theorem py_real (D : Data) (j : Fin 36) : unscale (D.gy j) = (((unscale (D.gy j)).toReal : ℝ) : EReal) := by
  obtain ⟨r, hr⟩ := gy_real D j
  obtain ⟨u, hu⟩ := unscale_real r
  rw [hr, hu, EReal.toReal_coe]

/-- The inclusion of the reals respects the greater of two. -/
theorem coe_max (a b : ℝ) : max (a : EReal) (b : EReal) = ((max a b : ℝ) : EReal) :=
  (EReal.coe_strictMono.monotone.map_max).symm

/-- The inclusion of the reals respects the lesser of two. -/
theorem coe_min (a b : ℝ) : min (a : EReal) (b : EReal) = ((min a b : ℝ) : EReal) :=
  (EReal.coe_strictMono.monotone.map_min).symm

/-- Clipping an integer coordinate to `[0, 23]` gives the nearest row or column. -/
theorem clip_coe (z : ℤ) :
    min ((23 : ℝ) : EReal) (max ((0 : ℝ) : EReal) ((z : ℝ) : EReal)) = (((cl z).val : ℝ) : EReal) := by
  rw [coe_max, coe_min, EReal.coe_eq_coe_iff]
  have h : (((cl z).val : ℕ) : ℤ) = min 23 (max 0 z) := by
    show (((min 23 (max 0 z)).toNat : ℕ) : ℤ) = _
    omega
  have : (((cl z).val : ℕ) : ℝ) = (((((cl z).val : ℕ) : ℤ)) : ℝ) := by push_cast; rfl
  rw [this, h]; push_cast; rfl

/-- A small natural number converts to the word that holds it. -/
theorem fptosi_nat (k : ℕ) (hk : k < 1000) : Ideal.fptosi 32 ((k : ℝ) : EReal) = BitVec.ofNat 32 k := by
  unfold Ideal.fptosi
  rw [Ideal.toIntClamped_coe, if_pos (Nat.cast_nonneg k), Int.floor_natCast]
  have : max (-((2 ^ (32 - 1) : ℕ) : ℤ)) (min (((2 ^ (32 - 1) : ℕ) : ℤ) - 1) (k : ℤ)) = (k : ℤ) := by
    norm_num; omega
  rw [this]; simp

/-- Of four reals' products the conversion is exact: the flat pixel index, computed in floats. -/
theorem pixel_word (zx zy : ℤ) :
    Ideal.fptosi 32 ((((cl zy).val : ℝ) : EReal) * ((24 : ℝ) : EReal) + (((cl zx).val : ℝ) : EReal))
      = BitVec.ofNat 32 (pixel zx zy).val := by
  have h := (pixel zx zy).isLt
  rw [← EReal.coe_mul, ← EReal.coe_add]
  have : ((cl zy).val : ℝ) * 24 + ((cl zx).val : ℝ) = (((pixel zx zy).val : ℕ) : ℝ) := by
    simp [pixel]
  rw [this, fptosi_nat _ (by omega)]

/-- A sum against a one-hot column: the element it selects. -/
theorem sum_onehot (X : Fin 576 → EReal) (i : Fin 576) (w : EReal) :
    ∑ p : Fin 576, X p * ((if p = i then (1 : EReal) else 0) * w) = X i * w := by
  rw [Finset.sum_eq_single i]
  · simp
  · intro p _ hp; simp [hp]
  · intro h; exact absurd (Finset.mem_univ _) h

/-- A one-hot column with a nonnegative weight is nonnegative. -/
theorem onehot_nonneg (p i : Fin 576) (w : EReal) (h : 0 ≤ w) : 0 ≤ (if p = i then (1 : EReal) else 0) * w := by
  split_ifs
  · simpa using h
  · simp

/-- The image against the sum of four weighted one-hot columns: the four weighted elements. -/
theorem sum_four (X : Fin 576 → EReal) (i₁ i₂ i₃ i₄ : Fin 576) (w₁ w₂ w₃ w₄ : EReal) (h₁ : 0 ≤ w₁) (h₂ : 0 ≤ w₂)
    (h₃ : 0 ≤ w₃) (h₄ : 0 ≤ w₄) :
    ∑ p : Fin 576, X p * ((((if p = i₁ then (1 : EReal) else 0) * w₁ + (if p = i₂ then (1 : EReal) else 0) * w₂)
        + (if p = i₃ then (1 : EReal) else 0) * w₃) + (if p = i₄ then (1 : EReal) else 0) * w₄)
      = X i₁ * w₁ + X i₂ * w₂ + X i₃ * w₃ + X i₄ * w₄ := by
  have e : ∀ p : Fin 576, X p * ((((if p = i₁ then (1 : EReal) else 0) * w₁ + (if p = i₂ then (1 : EReal) else 0) * w₂)
        + (if p = i₃ then (1 : EReal) else 0) * w₃) + (if p = i₄ then (1 : EReal) else 0) * w₄)
      = X p * ((if p = i₁ then (1 : EReal) else 0) * w₁) + X p * ((if p = i₂ then (1 : EReal) else 0) * w₂)
        + X p * ((if p = i₃ then (1 : EReal) else 0) * w₃) + X p * ((if p = i₄ then (1 : EReal) else 0) * w₄) := by
    intro p
    have a₁ := onehot_nonneg p i₁ w₁ h₁
    have a₂ := onehot_nonneg p i₂ w₂ h₂
    have a₃ := onehot_nonneg p i₃ w₃ h₃
    have a₄ := onehot_nonneg p i₄ w₄ h₄
    rw [EReal.left_distrib_of_nonneg (add_nonneg (add_nonneg a₁ a₂) a₃) a₄,
      EReal.left_distrib_of_nonneg (add_nonneg a₁ a₂) a₃, EReal.left_distrib_of_nonneg a₁ a₂]
  rw [Finset.sum_congr rfl fun p _ => e p]
  simp only [Finset.sum_add_distrib, sum_onehot]

/-- A weight that is dropped outside the image is the validity times the weight. -/
theorem mul_valid (x w : EReal) (P : Prop) [Decidable P] :
    x * (if P then w else 0) = x * (if P then (1 : EReal) else 0) * w := by
  split_ifs <;> simp

/-- A nonnegative real factor moves into a sum. -/
theorem mul_sum {ι : Type} (s : Finset ι) (r : ℝ) (hr : 0 ≤ r) (f : ι → EReal) :
    (r : EReal) * ∑ i ∈ s, f i = ∑ i ∈ s, (r : EReal) * f i := by
  classical
  induction s using Finset.induction_on with
  | empty => simp
  | insert a s ha ih =>
    rw [Finset.sum_insert ha, Finset.sum_insert ha,
      EReal.left_distrib_of_nonneg_of_ne_top (EReal.coe_nonneg.mpr hr) (EReal.coe_ne_top r), ih]

/-- The sign written with comparisons: minus or plus one off zero, and the number itself at zero. -/
theorem sign_select (r : ℝ) :
    (if 0 < max (r : EReal) (-(r : EReal)) then (if (r : EReal) < 0 then ((-1 : ℝ) : EReal) else 1) else (r : EReal))
      = Ideal.sign (r : EReal) := by
  rw [Ideal.sign_coe]
  rcases lt_trichotomy r 0 with h | h | h
  · have h' : (r : EReal) < 0 := by exact_mod_cast h
    rw [if_pos (lt_max_of_lt_right (by rw [← EReal.coe_neg]; exact_mod_cast neg_pos.mpr h)), if_pos h', sign_neg h]
    simp
  · subst h; simp
  · have h' : ¬ (r : EReal) < 0 := not_lt.mpr (by exact_mod_cast h.le)
    rw [if_pos (lt_max_of_lt_left (by exact_mod_cast h)), if_neg h', sign_pos h]
    simp

/-- Every value is at most the fold of the maximum. -/
theorem le_fold {n : ℕ} (f : Fin n → EReal) (j : Fin n) : f j ≤ Finset.univ.fold max (⊥ : EReal) f :=
  (Finset.le_fold_max _).mpr (.inr ⟨j, Finset.mem_univ _, le_rfl⟩)

/-- Taking the greatest logit away twice is taking it away once. -/
theorem sub_top_twice {n : ℕ} (f : Fin n → EReal) (j : Fin n) :
    f j - Finset.univ.fold max (⊥ : EReal) f
        - max ⊥ (Finset.univ.fold max (⊥ : EReal) fun k => f k - Finset.univ.fold max (⊥ : EReal) f)
      = f j - Finset.univ.fold max (⊥ : EReal) f := by
  rw [max_eq_right bot_le]
  generalize hM : Finset.univ.fold max (⊥ : EReal) f = M
  have hle : ∀ k, f k ≤ M := fun k => hM ▸ le_fold f k
  induction M with
  | bot =>
    have : f j = ⊥ := le_bot_iff.mp (hle j)
    rw [this]; simp
  | top => simp
  | coe r =>
    have h0 : Finset.univ.fold max (⊥ : EReal) (fun k => f k - (r : EReal)) = 0 := by
      apply le_antisymm
      · rw [Finset.fold_max_le]
        exact ⟨bot_le, fun k _ => by
          have := EReal.sub_le_sub (hle k) (le_refl (r : EReal))
          rwa [EReal.sub_self (EReal.coe_ne_top r) (EReal.coe_ne_bot r)] at this⟩
      · have : (r : EReal) ≤ Finset.univ.fold max (⊥ : EReal) f := hM.ge
        rw [Finset.le_fold_max] at this
        rcases this with h | ⟨k, _, hk⟩
        · simp at h
        · rw [Finset.le_fold_max]
          refine .inr ⟨k, Finset.mem_univ _, ?_⟩
          have := EReal.sub_le_sub hk (le_refl (r : EReal))
          rwa [EReal.sub_self (EReal.coe_ne_top r) (EReal.coe_ne_bot r)] at this
    rw [h0]; simp

/-- A small natural number's word converts to that number. -/
theorem sitofp_nat (k : ℕ) (hk : k < 1000) :
    FloatOps.sitofp (F := Ideal) FTy.f32 (BitVec.ofNat 32 k) = ((k : ℝ) : EReal) := by
  show ((((BitVec.ofNat 32 k).toInt : ℤ) : ℝ) : EReal) = _
  have : (BitVec.ofNat 32 k).toInt = (k : ℤ) := by
    rw [BitVec.toInt_eq_toNat_cond, BitVec.toNat_ofNat, Nat.mod_eq_of_lt (by omega), if_pos (by omega)]
  rw [this]; push_cast; rfl

/-- The four comparisons of a corner with the image's borders, as one bit. -/
theorem valid_bit (zx zy : ℤ) :
    IntOp.andi
      (IntOp.andi
        (IntOp.andi (BitVec.ofBool (decide (0 ≤ (((zx : ℤ) : ℝ) : EReal))))
          (BitVec.ofBool (decide ((((zx : ℤ) : ℝ) : EReal) ≤ ((23 : ℝ) : EReal)))))
        (BitVec.ofBool (decide (0 ≤ (((zy : ℤ) : ℝ) : EReal)))))
      (BitVec.ofBool (decide ((((zy : ℤ) : ℝ) : EReal) ≤ ((23 : ℝ) : EReal)))) = if Ok zx zy then 1 else 0 := by
  have e0 : ∀ z : ℤ, (0 ≤ (((z : ℤ) : ℝ) : EReal)) ↔ 0 ≤ z := fun z => by
    rw [← EReal.coe_zero, EReal.coe_le_coe_iff]; exact_mod_cast Iff.rfl
  have e1 : ∀ z : ℤ, ((((z : ℤ) : ℝ) : EReal) ≤ ((23 : ℝ) : EReal)) ↔ z ≤ 23 := fun z => by
    rw [EReal.coe_le_coe_iff]; exact_mod_cast Iff.rfl
  simp only [e0, e1, Ok]
  by_cases a : 0 ≤ zx <;> by_cases b : zx ≤ 23 <;> by_cases c : 0 ≤ zy <;> by_cases d : zy ≤ 23 <;>
    simp [a, b, c, d, IntOp.andi]

/-- The clipped pixel word of a corner, computed in floats. -/
theorem clip_word (zx zy : ℤ) :
    FloatOps.fptosi (F := Ideal) (φ := .f32) 32
        (min (((23#32).toInt : ℝ) : EReal) (max (((0#32).toInt : ℝ) : EReal) (((zy : ℤ) : ℝ) : EReal)) * ((24 : ℝ) : EReal)
          + min (((23#32).toInt : ℝ) : EReal) (max (((0#32).toInt : ℝ) : EReal) (((zx : ℤ) : ℝ) : EReal)))
      = BitVec.ofNat 32 (pixel zx zy).val := by
  have a : (((23#32).toInt : ℝ) : EReal) = ((23 : ℝ) : EReal) := by norm_num [show (23#32).toInt = 23 from by decide]
  have b : (((0#32).toInt : ℝ) : EReal) = ((0 : ℝ) : EReal) := by norm_num [show (0#32).toInt = 0 from by decide]
  rw [a, b, clip_coe, clip_coe]
  exact pixel_word zx zy

/-- The next integer, as a float. -/
theorem succ_coe (z : ℤ) : (((z : ℤ) : ℝ) : EReal) + 1 = (((z + 1 : ℤ) : ℝ) : EReal) := by
  rw [← EReal.coe_one, ← EReal.coe_add]; push_cast; rfl

/-- The pixel column of sampling point `j`, a real. -/
abbrev px (D : Data) (j : Fin 36) : ℝ := (unscale (D.gx j)).toReal

/-- The pixel row of sampling point `j`, a real. -/
abbrev py (D : Data) (j : Fin 36) : ℝ := (unscale (D.gy j)).toReal

end Cert.Algebra

end
-- ==== Proof.KGrid.lean ====
/- The kernel's sampling coordinates and its bilinear sampling by one-hot columns, read at an index. -/
module

public import proofs.«01_k».proof.Proof.KConv
public import proofs.«01_k».proof.Proof.Algebra

@[expose] public section

set_option maxRecDepth 16384

noncomputable section

namespace Cert.KernelIdeal.Pay

open Idealize.ShloMosaic Cert.KernelIdeal Cert.KernelIdeal.Gen Cert.Spec Cert.Algebra

/-- The integer quotient by 6, with the kernel's correction for signs. -/
theorem row_word (j : Fin 36) :
    Scalar.select
      (IntOp.andi
        (IntOp.cmpi CmpIPredicate.ne
          (IntOp.subi (BitVec.setWidth 32 (IntOp.cmpi CmpIPredicate.sgt (BitVec.ofNat 32 j.val) 0#32))
            (BitVec.setWidth 32 (IntOp.cmpi CmpIPredicate.slt (BitVec.ofNat 32 j.val) 0#32)))
          (Scalar.subi (Scalar.extui (Scalar.cmpi CmpIPredicate.sgt 6#32 0#32))
            (Scalar.extui (Scalar.cmpi CmpIPredicate.slt 6#32 0#32))))
        (IntOp.cmpi CmpIPredicate.ne (IntOp.remsi ArithUnit.vector (BitVec.ofNat 32 j.val) 6#32) 0#32))
      (IntOp.subi (IntOp.divsi ArithUnit.vector (BitVec.ofNat 32 j.val) 6#32) 1#32)
      (IntOp.divsi ArithUnit.vector (BitVec.ofNat 32 j.val) 6#32) = BitVec.ofNat 32 (j.val / 6) := by
  revert j; decide

/-- The integer remainder by 6, with the kernel's correction for signs. -/
theorem col_word (j : Fin 36) :
    Scalar.select
      (IntOp.andi
        (IntOp.xori
          (IntOp.cmpi CmpIPredicate.slt
            (IntOp.remsi ArithUnit.vector (BitVec.ofNat 32 j.val)
              (Scalar.select (Scalar.cmpi CmpIPredicate.eq 6#32 0#32) 1#32 6#32)) 0#32)
          (Scalar.cmpi CmpIPredicate.slt (Scalar.select (Scalar.cmpi CmpIPredicate.eq 6#32 0#32) 1#32 6#32) 0#32))
        (IntOp.cmpi CmpIPredicate.ne
          (IntOp.remsi ArithUnit.vector (BitVec.ofNat 32 j.val)
            (Scalar.select (Scalar.cmpi CmpIPredicate.eq 6#32 0#32) 1#32 6#32)) 0#32))
      (IntOp.addi
        (IntOp.remsi ArithUnit.vector (BitVec.ofNat 32 j.val)
          (Scalar.select (Scalar.cmpi CmpIPredicate.eq 6#32 0#32) 1#32 6#32))
        (Scalar.select (Scalar.cmpi CmpIPredicate.eq 6#32 0#32) 1#32 6#32))
      (IntOp.remsi ArithUnit.vector (BitVec.ofNat 32 j.val)
        (Scalar.select (Scalar.cmpi CmpIPredicate.eq 6#32 0#32) 1#32 6#32)) = BitVec.ofNat 32 (j.val % 6) := by
  revert j; decide

/-- The kernel's row coordinates. -/
theorem gy_apply (D : Data) (v212 : FVec Ideal S2x36 .f32) (ho : ∀ a j, v212 (ix2 a j) = D.off a j) (j : Fin 36) :
    k0_pay50 v212 k0_pay47 k0_pay48 k0_pay49 0#32 (ix2 0 j) = D.gy j := by
  pointwise [k0_pay50, k0_pay47, k0_pay48, k0_pay49]
  rw [row_word, sitofp_nat _ (by omega), ho, Consts.two, Consts.five]
  rfl

/-- The kernel's column coordinates. -/
theorem gx_apply (D : Data) (v212 : FVec Ideal S2x36 .f32) (ho : ∀ a j, v212 (ix2 a j) = D.off a j) (j : Fin 36) :
    k0_pay51 v212 (iota .tc S1x36 32 [1] iota_S1x36_d1_w32) (ix2 0 j) = D.gx j := by
  pointwise [k0_pay51]
  rw [col_word, sitofp_nat _ (by omega), ho, Consts.two, Consts.five]
  rfl

/-- The kernel's number one. -/
abbrev one : Ideal FTy.f32 := Scalar.ofBits FTy.f32 0x3F800000#32

section Parts

variable (D : Data) (v265 v275 : FVec Ideal S1x36 .f32) (hgy : ∀ j, v265 (ix2 0 j) = D.gy j)
  (hgx : ∀ j, v275 (ix2 0 j) = (D.gx j + 1) * ((24 : ℝ) : EReal)) (j : Fin 36)

include hgx in
/-- The pixel columns. -/
theorem col_apply : k0_pay53 v275 one (ix2 0 j) = ((px D j : ℝ) : EReal) := by
  pointwise [k0_pay53]
  rw [hgx, Consts.half, ← px_real]; rfl

include hgy in
/-- The pixel rows. -/
theorem rowc_apply : k0_pay54 v265 (ix2 0 j) = ((py D j : ℝ) : EReal) := by
  pointwise [k0_pay54]
  rw [hgy, Consts.half, Consts.c24, ← py_real]; rfl

include hgx in
/-- The left columns. -/
theorem x0_apply : k0_pay55 v275 one (ix2 0 j) = (((⌊px D j⌋ : ℤ) : ℝ) : EReal) := by
  have h := col_apply D v275 hgx j
  unfold k0_pay55
  generalize k0_pay53 v275 one = a at h
  pointwise []
  rw [h]; rfl

include hgy in
/-- The upper rows. -/
theorem y0_apply : k0_pay56 v265 (ix2 0 j) = (((⌊py D j⌋ : ℤ) : ℝ) : EReal) := by
  have h := rowc_apply D v265 hgy j
  unfold k0_pay56
  generalize k0_pay54 v265 = a at h
  pointwise []
  rw [h]; rfl

end Parts

/-- The words of two pixels agree when the pixels do. -/
theorem pixel_eq (p i : Fin 576) : (BitVec.ofNat 32 p.val = BitVec.ofNat 32 i.val) ↔ p = i := by
  constructor
  · intro h
    have := congrArg BitVec.toNat h
    rw [BitVec.toNat_ofNat, BitVec.toNat_ofNat, Nat.mod_eq_of_lt (by omega), Nat.mod_eq_of_lt (by omega)] at this
    exact Fin.ext this
  · rintro rfl; rfl

/-- A corner's entry of the one-hot column: its weight, dropped outside the image, where the pixel is the corner's. -/
theorem corner_select (zx zy : ℤ) (p : Fin 576) (w : EReal) :
    Scalar.select (if Ok zx zy then (1 : BitVec 1) else 0)
        (Scalar.select (IntOp.cmpi CmpIPredicate.eq (BitVec.ofNat 32 p.val) (BitVec.ofNat 32 (pixel zx zy).val)) w 0) 0
      = (if p = pixel zx zy then (1 : EReal) else 0) * (if Ok zx zy then w else 0) := by
  have h : IntOp.cmpi CmpIPredicate.eq (BitVec.ofNat 32 p.val) (BitVec.ofNat 32 (pixel zx zy).val)
      = if p = pixel zx zy then (1 : BitVec 1) else 0 := by
    by_cases e : p = pixel zx zy
    · rw [if_pos e, (pixel_eq p (pixel zx zy)).mpr e]; simp [IntOp.cmpi]
    · rw [if_neg e]
      have := mt (pixel_eq p (pixel zx zy)).mp e
      show BitVec.ofBool (_ == _) = _
      rw [beq_eq_false_iff_ne.mpr this]; rfl
  rw [h]
  by_cases a : Ok zx zy <;> by_cases b : p = pixel zx zy <;> simp [a, b, Scalar.select]

/-- The first corner's one-hot column. -/
theorem hot1 (v288 v289 v298 : FVec Ideal S1x36 .f32) (v317 v319 : IVec S1x36 1) (zx zy : ℤ) (w : EReal) (p : Fin 576)
    (j : Fin 36) (hx : v288 (ix2 0 j) = (((zx : ℤ) : ℝ) : EReal)) (hy : v289 (ix2 0 j) = (((zy : ℤ) : ℝ) : EReal))
    (hw : v298 (ix2 0 j) = w) (hv : IntOp.andi (v317 (ix2 0 j)) (v319 (ix2 0 j)) = if Ok zx zy then 1 else 0) :
    k0_pay72 v288 v289 (iota .tc S576x36 32 [0] iota_S576x36_d0_w32) k0_pay61 v298 v317 v319 (ix2 p j)
      = (if p = pixel zx zy then (1 : EReal) else 0) * (if Ok zx zy then w else 0) := by
  pointwise [k0_pay72, k0_pay61]
  rw [hv, hx, hy, hw, Consts.c24, clip_word, corner_select]

/-- The second corner's one-hot column is added. -/
theorem hot2 (v300 v301 v289 : FVec Ideal S1x36 .f32) (v346 : FVec Ideal S576x36 .f32) (zx zy : ℤ) (w : EReal) (p : Fin 576)
    (j : Fin 36) (hx : v300 (ix2 0 j) = (((zx : ℤ) : ℝ) : EReal)) (hy : v289 (ix2 0 j) = (((zy : ℤ) : ℝ) : EReal))
    (hw : v301 (ix2 0 j) = w) :
    k0_pay76 (iota .tc S576x36 32 [0] iota_S576x36_d0_w32) v300 v301 v346 (k0_pay73 v289 v300) (k0_pay74 v289) k0_pay75
        (ix2 p j)
      = v346 (ix2 p j) + (if p = pixel zx zy then (1 : EReal) else 0) * (if Ok zx zy then w else 0) := by
  pointwise [k0_pay76, k0_pay73, k0_pay74, k0_pay75]
  rw [hx, hy, hw, Consts.c24, Consts.c23, valid_bit, clip_word, corner_select]

/-- The third corner's one-hot column is added. -/
theorem hot3 (v288 v303 v304 : FVec Ideal S1x36 .f32) (v383 : FVec Ideal S576x36 .f32) (zx zy : ℤ) (w : EReal) (p : Fin 576)
    (j : Fin 36) (hx : v288 (ix2 0 j) = (((zx : ℤ) : ℝ) : EReal)) (hy : v303 (ix2 0 j) = (((zy : ℤ) : ℝ) : EReal))
    (hw : v304 (ix2 0 j) = w) :
    k0_pay79 (iota .tc S576x36 32 [0] iota_S576x36_d0_w32) v304 v383 (k0_pay77 v288 v303) (k0_pay78 v288 v303) (ix2 p j)
      = v383 (ix2 p j) + (if p = pixel zx zy then (1 : EReal) else 0) * (if Ok zx zy then w else 0) := by
  pointwise [k0_pay79, k0_pay77, k0_pay78]
  rw [hx, hy, hw, Consts.c24, Consts.c23, valid_bit, clip_word, corner_select]

/-- The fourth corner's one-hot column, which the kernel multiplies out. -/
theorem hot4 (v306 v308 v309 : FVec Ideal S1x36 .f32) (zx zy : ℤ) (w : EReal) (p : Fin 576)
    (j : Fin 36) (hx : v306 (ix2 0 j) = (((zx : ℤ) : ℝ) : EReal)) (hy : v308 (ix2 0 j) = (((zy : ℤ) : ℝ) : EReal))
    (hw : v309 (ix2 0 j) = w) :
    mulf (k0_pay80 (iota .tc S576x36 32 [0] iota_S576x36_d0_w32) v306 v308) (k0_pay81 v306 v308 v309) (ix2 p j)
      = (if p = pixel zx zy then (1 : EReal) else 0) * (if Ok zx zy then w else 0) := by
  pointwise [k0_pay80, k0_pay81]
  rw [hx, hy, hw, Consts.c24, Consts.c23, valid_bit, clip_word, corner_select]

/-- The columns of the first three corners, as the kernel adds them up. -/
def hot (v265 v275 : FVec Ideal S1x36 .f32) : FVec Ideal S576x36 .f32 :=
  k0_pay79 (iota .tc S576x36 32 [0] iota_S576x36_d0_w32) (k0_pay66 v265 v275 one)
    (k0_pay76 (iota .tc S576x36 32 [0] iota_S576x36_d0_w32) (k0_pay63 v275 one) (k0_pay64 v265 v275 one)
      (k0_pay72 (k0_pay55 v275 one) (k0_pay56 v265) (iota .tc S576x36 32 [0] iota_S576x36_d0_w32) k0_pay61
        (k0_pay62 v265 v275 one) (k0_pay70 v265 v275 one) (k0_pay71 v265))
      (k0_pay73 (k0_pay56 v265) (k0_pay63 v275 one)) (k0_pay74 (k0_pay56 v265)) k0_pay75)
    (k0_pay77 (k0_pay55 v275 one) (k0_pay65 v265)) (k0_pay78 (k0_pay55 v275 one) (k0_pay65 v265))

/-- The fourth corner's pixel. -/
def lastHot (v265 v275 : FVec Ideal S1x36 .f32) : FVec Ideal S576x36 .f32 :=
  k0_pay80 (iota .tc S576x36 32 [0] iota_S576x36_d0_w32) (k0_pay67 v275 one) (k0_pay68 v265)

/-- The fourth corner's weight. -/
def lastWeight (v265 v275 : FVec Ideal S1x36 .f32) : FVec Ideal S576x36 .f32 :=
  k0_pay81 (k0_pay67 v275 one) (k0_pay68 v265) (k0_pay69 v265 v275 one)

/-- A corner's product of weights, dropped outside the image, is nonnegative. -/
theorem weight_nonneg (P : Prop) [Decidable P] (a b : ℝ) (ha : 0 ≤ a) (hb : 0 ≤ b) :
    0 ≤ if P then ((a * b : ℝ) : EReal) else 0 := by
  split_ifs
  · exact EReal.coe_nonneg.mpr (mul_nonneg ha hb)
  · exact le_rfl

/-- The sampled image: the kernel's product with the sum of the four one-hot columns. -/
theorem kv_apply (D : Data) (v1 : FVec Ideal S96x576 .f32) (v265 v275 : FVec Ideal S1x36 .f32)
    (hx : ∀ d n, v1 (ix2 d n) = D.x d n) (hgy : ∀ j, v265 (ix2 0 j) = D.gy j)
    (hgx : ∀ j, v275 (ix2 0 j) = (D.gx j + 1) * ((24 : ℝ) : EReal)) (d : Fin 96) (j : Fin 36) :
    k0_pay82 v1 (hot v265 v275) (lastHot v265 v275) (lastWeight v265 v275) (ix2 d j) = D.kv d j := by
  have hc := col_apply D v275 hgx j
  have hr := rowc_apply D v265 hgy j
  have hx0 := x0_apply D v275 hgx j
  have hy0 := y0_apply D v265 hgy j
  have hx1 : k0_pay63 v275 one (ix2 0 j) = (((⌊px D j⌋ + 1 : ℤ) : ℝ) : EReal) := by
    rw [← succ_coe, ← hx0]; unfold k0_pay63; generalize k0_pay55 v275 one = a; pointwise []
  have hy1 : k0_pay65 v265 (ix2 0 j) = (((⌊py D j⌋ + 1 : ℤ) : ℝ) : EReal) := by
    rw [← succ_coe, ← hy0]; unfold k0_pay65; generalize k0_pay56 v265 = a; pointwise []
  have hx1' : k0_pay67 v275 one (ix2 0 j) = (((⌊px D j⌋ + 1 : ℤ) : ℝ) : EReal) := hx1
  have hy1' : k0_pay68 v265 (ix2 0 j) = (((⌊py D j⌋ + 1 : ℤ) : ℝ) : EReal) := hy1
  have hfx : k0_pay57 v275 one (ix2 0 j) = ((px D j - ⌊px D j⌋ : ℝ) : EReal) := by
    rw [EReal.coe_sub, ← hc, ← hx0]; unfold k0_pay57; generalize k0_pay55 v275 one = a; generalize k0_pay53 v275 one = b; pointwise []
  have hfy : k0_pay59 v265 (ix2 0 j) = ((py D j - ⌊py D j⌋ : ℝ) : EReal) := by
    rw [EReal.coe_sub, ← hr, ← hy0]; unfold k0_pay59; generalize k0_pay56 v265 = a; generalize k0_pay54 v265 = b; pointwise []
  have hgx' : k0_pay58 v275 one (ix2 0 j) = ((1 - (px D j - ⌊px D j⌋) : ℝ) : EReal) := by
    rw [EReal.coe_sub, EReal.coe_one, ← hfx]; unfold k0_pay58; generalize k0_pay57 v275 one = a; pointwise []
  have hgy' : k0_pay60 v265 (ix2 0 j) = ((1 - (py D j - ⌊py D j⌋) : ℝ) : EReal) := by
    rw [EReal.coe_sub, EReal.coe_one, ← hfy]; unfold k0_pay60; generalize k0_pay59 v265 = a; pointwise []
  have w1 : k0_pay62 v265 v275 one (ix2 0 j) = (((1 - (px D j - ⌊px D j⌋)) * (1 - (py D j - ⌊py D j⌋)) : ℝ) : EReal) := by
    rw [EReal.coe_mul, ← hgx', ← hgy']; rfl
  have w2 : k0_pay64 v265 v275 one (ix2 0 j) = (((px D j - ⌊px D j⌋) * (1 - (py D j - ⌊py D j⌋)) : ℝ) : EReal) := by
    rw [EReal.coe_mul, ← hfx, ← hgy']; rfl
  have w3 : k0_pay66 v265 v275 one (ix2 0 j) = (((1 - (px D j - ⌊px D j⌋)) * (py D j - ⌊py D j⌋) : ℝ) : EReal) := by
    rw [EReal.coe_mul, ← hgx', ← hfy]; rfl
  have w4 : k0_pay69 v265 v275 one (ix2 0 j) = (((px D j - ⌊px D j⌋) * (py D j - ⌊py D j⌋) : ℝ) : EReal) := by
    rw [EReal.coe_mul, ← hfx, ← hfy]; rfl
  have hv : IntOp.andi (k0_pay70 v265 v275 one (ix2 0 j)) (k0_pay71 v265 (ix2 0 j))
      = if Ok ⌊px D j⌋ ⌊py D j⌋ then 1 else 0 := by
    rw [← valid_bit, ← hx0, ← hy0, ← Consts.c23]
    unfold k0_pay70 k0_pay71
    generalize k0_pay55 v275 one = a; generalize k0_pay56 v265 = b
    pointwise []
  have hp : ∀ p : Fin 576, addf (hot v265 v275) (mulf (lastHot v265 v275) (lastWeight v265 v275)) (ix2 p j) = _ := fun p => by
    show hot v265 v275 (ix2 p j) + mulf (lastHot v265 v275) (lastWeight v265 v275) (ix2 p j) = _
    unfold hot lastHot lastWeight
    rw [hot3 _ _ _ _ _ _ _ p j hx0 hy1 w3, hot2 _ _ _ _ _ _ _ p j hx1 hy0 w2, hot1 _ _ _ _ _ _ _ _ p j hx0 hy0 w1 hv,
      hot4 _ _ _ _ _ _ p j hx1' hy1' w4]
  unfold k0_pay82
  generalize addf (hot v265 v275) (mulf (lastHot v265 v275) (lastWeight v265 v275)) = q at hp
  pointwise []
  have f0 := Int.fract_nonneg (px D j)
  have f1 := (Int.fract_lt_one (px D j)).le
  have g0 := Int.fract_nonneg (py D j)
  have g1 := (Int.fract_lt_one (py D j)).le
  simp only [hp, hx]
  refine (sum_four (D.x d) _ _ _ _ _ _ _ _ (weight_nonneg _ _ _ (sub_nonneg.mpr f1) (sub_nonneg.mpr g1))
    (weight_nonneg _ _ _ f0 (sub_nonneg.mpr g1)) (weight_nonneg _ _ _ (sub_nonneg.mpr f1) g0) (weight_nonneg _ _ _ f0 g0)).trans ?_
  unfold Data.kv sample corner
  rw [← mul_valid, ← mul_valid, ← mul_valid, ← mul_valid]
  rfl

end Cert.KernelIdeal.Pay

end
-- ==== Proof.KBias.lean ====
/- The kernel's position network, its attention and its output, read at an index. -/
module

public import proofs.«01_k».proof.Proof.KGrid

@[expose] public section

set_option maxRecDepth 16384

noncomputable section

namespace Cert.KernelIdeal.Pay

open Idealize.ShloMosaic Cert.KernelIdeal Cert.KernelIdeal.Gen Cert.Spec Cert.Algebra

/-- The signed logarithm as the kernel writes it, by comparisons, of the distance of query coordinate `k` from a real. -/
theorem slog_select (k : ℕ) (hk : k < 1000) (w : BitVec 32) (hw : w = BitVec.ofNat 32 k) (g : EReal) (hg : ∃ r : ℝ, g = (r : EReal)) :
    (if 0 < FloatOps.absf (F := Ideal) (φ := .f32) (Ideal.div (Ideal.ofBits FTy.f32 0x40000000#32 * FloatOps.sitofp (F := Ideal) FTy.f32 w)
            (Ideal.ofBits FTy.f32 0x41B80000#32) - 1 - g) then
        if Ideal.div (Ideal.ofBits FTy.f32 0x40000000#32 * FloatOps.sitofp (F := Ideal) FTy.f32 w)
            (Ideal.ofBits FTy.f32 0x41B80000#32) - 1 - g < 0 then Ideal.ofBits FTy.f32 0xBF800000#32 else 1
      else Ideal.div (Ideal.ofBits FTy.f32 0x40000000#32 * FloatOps.sitofp (F := Ideal) FTy.f32 w)
            (Ideal.ofBits FTy.f32 0x41B80000#32) - 1 - g)
      * Ideal.log (FloatOps.absf (F := Ideal) (φ := .f32) (Ideal.div (Ideal.ofBits FTy.f32 0x40000000#32 * FloatOps.sitofp (F := Ideal) FTy.f32 w)
            (Ideal.ofBits FTy.f32 0x41B80000#32) - 1 - g) + 1)
      = slog (qgrid k - g) := by
  obtain ⟨r, rfl⟩ := hg
  rw [hw, sitofp_nat k hk, Consts.two, Consts.c23, Consts.negOne]
  change (if 0 < FloatOps.absf (F := Ideal) (φ := .f32) (qgrid k - r) then if qgrid k - r < 0 then _ else _ else qgrid k - r)
    * Ideal.log (FloatOps.absf (F := Ideal) (φ := .f32) (qgrid k - r) + 1) = _
  obtain ⟨s, hs⟩ := qgrid_real k
  rw [hs, ← EReal.coe_sub]
  unfold slog
  rw [← sign_select]
  rfl

/-- A sum of small words. -/
theorem addi_nat (a b : ℕ) : IntOp.addi (BitVec.ofNat 32 a) (BitVec.ofNat 32 b) = BitVec.ofNat 32 (a + b) := by
  show BitVec.ofNat 32 a + BitVec.ofNat 32 b = _
  rw [BitVec.ofNat_add]

/-- The columns' part of the first layer. -/
theorem xpart (D : Data) (v271 : FVec Ideal S1x36 .f32) (v491 : Vec Ideal S1x192 .f32) (h : ∀ j, v271 (ix2 0 j) = D.gx j)
    (hc : ∀ e, v491 (ix2 0 e) = D.c1 0 e) (a : Fin 24) (j : Fin 36) (e : Fin 192) :
    k0_pay88 (k0_pay86 v271) (k0_pay87 v491) (ix3 a j e) = slog (qgrid a.val - D.gx j) * D.c1 0 e := by
  pointwise [k0_pay88, k0_pay86, k0_pay87]
  rw [slog_select a.val (by omega) _ rfl _ (by rw [h j]; exact gx_real D j), h, hc]

section Bias

variable (D : Data) (v265 : FVec Ideal S1x36 .f32) (v494 : FVec Ideal S1x192 .f32) (v497 v498 : FVec Ideal S24x36x192 .f32)
  (b1 : Vec Ideal S1x192 .f32) (w2 : Vec Ideal S192x192 .bf16) (b2 : Vec Ideal S1x192 .f32) (w3 : Vec Ideal S192x8 .f32)
  (hgy : ∀ j, v265 (ix2 0 j) = D.gy j) (hc : ∀ e, v494 (ix2 0 e) = D.c1 1 e)
  (hx : ∀ a j e, k0_pay88 v497 v498 (ix3 a j e) = slog (qgrid a.val - D.gx j) * D.c1 0 e)
  (hb1 : ∀ e, b1 (ix2 0 e) = D.d1 e) (hw2 : ∀ o i, w2 (ix2 o i) = D.c2 o i) (hb2 : ∀ e, b2 (ix2 0 e) = D.d2 e)
  (hw3 : ∀ e, w3 (ix2 e 0) = D.c3 e)

include hgy in
/-- The row coordinates are reals. -/
theorem row_real (j : Fin 36) : ∃ r : ℝ, v265 (ix2 0 j) = (r : EReal) := hgy j ▸ gy_real D j

include hgy hc hx hb1 hw2 hb2 hw3 in
/-- The first 192 pixels' bias. -/
theorem bias0 (r : Fin 192) (j : Fin 36) :
    k0_pay91 (k0_pay89 v265 v494 v497 v498 b1) (k0_pay90 w2) b2 w3 (ix2 r j) = D.bias ⟨192 * 0 + r.val, by omega⟩ j := by
  have h1 : ∀ (t : Fin 6912) (e : Fin 192), k0_pay89 v265 v494 v497 v498 b1 (ix2 t e)
      = D.h1 (slog (qgrid (t.val / 36 % 24) - D.gx ⟨t.val % 36, by omega⟩))
          (slog (qgrid (t.val / 864) - D.gy ⟨t.val % 36, by omega⟩)) e := fun t e => by
    unfold k0_pay89
    generalize k0_pay88 v497 v498 = v499 at hx
    pointwise []
    rw [slog_select (t.val / 864) (by omega) _ (addi_nat (t.val / 864) 0) _ (row_real D v265 hgy _), hx, hgy, hc, hb1]
    rfl
  generalize k0_pay89 v265 v494 v497 v498 b1 = v546 at h1
  pointwise [k0_pay91, k0_pay90]
  simp only [h1, hw2, hb2, hw3]
  have e1 : (r.val * 36 + j.val) / 36 % 24 = r.val % 24 := by omega
  have e2 : (r.val * 36 + j.val) / 864 = r.val / 24 := by omega
  have e3 : (⟨(r.val * 36 + j.val) % 36, by omega⟩ : Fin 36) = j := Fin.ext (by show (r.val * 36 + j.val) % 36 = j.val; omega)
  have e4 : (⟨192 * 0 + r.val, by omega⟩ : Fin 576) = ⟨r.val, by omega⟩ := Fin.ext (by show 192 * 0 + r.val = r.val; omega)
  simp only [e1, e2, e3, e4]
  rfl

include hx hb1 hw2 hb2 hw3 in
/-- The bias of a block of 192 pixels, from the block's rows' part of the first layer. -/
theorem bias_block (k : ℕ) (hk : k < 3) (v593 : FVec Ideal S8x36x192 .f32)
    (hy : ∀ (a : Fin 8) (j : Fin 36) (e : Fin 192), v593 (ix3 a j e) = slog (qgrid (a.val + 8 * k) - D.gy j) * D.c1 1 e)
    (r : Fin 192) (j : Fin 36) :
    k0_pay93 (k0_pay88 v497 v498) v593 b1 w2 b2 w3 (ix2 r j) = D.bias ⟨192 * k + r.val, by omega⟩ j := by
  generalize k0_pay88 v497 v498 = v499 at hx
  pointwise [k0_pay93]
  simp only [hy, hx, hb1, hw2, hb2, hw3]
  have e1 : (r.val * 36 + j.val) / 36 % 24 = (192 * k + r.val) % 24 := by omega
  have e2 : (r.val * 36 + j.val) / 864 + 8 * k = (192 * k + r.val) / 24 := by omega
  simp only [e1, e2]
  rfl

include hgy hc in
/-- The middle rows' part of the first layer. -/
theorem ypart1 (a : Fin 8) (j : Fin 36) (e : Fin 192) :
    k0_pay92 v265 v494 (ix3 a j e) = slog (qgrid (a.val + 8 * 1) - D.gy j) * D.c1 1 e := by
  pointwise [k0_pay92]
  rw [slog_select (a.val + 8) (by omega) _ (addi_nat a.val 8) _ (row_real D v265 hgy _), hgy, hc]

/-- The last rows' part of the first layer, as the kernel makes it. -/
def lastRows (v494 : FVec Ideal S1x192 .f32) (v634 v640 v641 : FVec Ideal S8x36 .f32) : FVec Ideal S8x36x192 .f32 :=
  have v644 := select (cmpf .ogt v641 (broadcast S8x36 (Scalar.ofBits .f32 0x00000000#32))) v640 v634
  have v648 : FVec Ideal S8x36 .f32 := log (addf (absf v634) (broadcast S8x36 (Scalar.ofBits .f32 0x3F800000#32)))
  have v650 : FVec Ideal S8x36x1 .f32 := shapeCast S8x36x1 (mulf v644 v648) shapeCasts_S8x36_S8x36x1
  have v651 : FVec Ideal S1x1x192 .f32 := shapeCast S1x1x192 v494 shapeCasts_S1x192_S1x1x192
  mulf (broadcastTo S8x36x192 v650 broadcasts_S8x36x1_S8x36x192) (broadcastTo S8x36x192 v651 broadcasts_S1x1x192_S8x36x192)

include hgy hc in
/-- The last rows' part of the first layer. -/
theorem ypart2 (a : Fin 8) (j : Fin 36) (e : Fin 192) :
    lastRows v494 (k0_pay94 v265) (k0_pay95 v265) (k0_pay96 v265) (ix3 a j e)
      = slog (qgrid (a.val + 8 * 2) - D.gy j) * D.c1 1 e := by
  pointwise [lastRows, k0_pay94, k0_pay95, k0_pay96]
  rw [slog_select (a.val + 16) (by omega) _ (addi_nat a.val 16) _ (row_real D v265 hgy _), hgy, hc]

/-- Three blocks of 192 pixels in one. -/
theorem blocks_apply (v0 v1 v2 : FVec Ideal S192x36 .f32)
    (h0 : ∀ r j, v0 (ix2 r j) = D.bias ⟨192 * 0 + r.val, by omega⟩ j)
    (h1 : ∀ r j, v1 (ix2 r j) = D.bias ⟨192 * 1 + r.val, by omega⟩ j)
    (h2 : ∀ r j, v2 (ix2 r j) = D.bias ⟨192 * 2 + r.val, by omega⟩ j) (n : Fin 576) (j : Fin 36) :
    concatenate S576x36 0 [⟨S192x36, v0⟩, ⟨S192x36, v1⟩, ⟨S192x36, v2⟩]
      concatenates_S192x36_S192x36_S192x36_S576x36_d0 (ix2 n j) = D.bias n j := by
  pointwise []
  have e0 : ∀ h : n.val < 192, v0 (ix2 ⟨n.val, h⟩ j) = D.bias n j := fun h =>
    (h0 _ j).trans (congrArg (D.bias · j) (Fin.ext (by show 192 * 0 + n.val = n.val; omega)))
  have e1 : ∀ (_ : ¬n.val < 192) (h : n.val - 192 < 192), v1 (ix2 ⟨n.val - 192, h⟩ j) = D.bias n j := fun _ h =>
    (h1 _ j).trans (congrArg (D.bias · j) (Fin.ext (by show 192 * 1 + (n.val - 192) = n.val; omega)))
  have e2 : ∀ (_ : ¬n.val < 192) (_ : ¬n.val - 192 < 192) (h : n.val - 192 - 192 < 192),
      v2 (ix2 ⟨n.val - 192 - 192, h⟩ j) = D.bias n j := fun _ _ h =>
    (h2 _ j).trans (congrArg (D.bias · j) (Fin.ext (by show 192 * 2 + (n.val - 192 - 192) = n.val; omega)))
  split_ifs <;> first | exact e0 _ | exact e1 ‹_› _ | exact e2 ‹_› ‹_› _

include hgy hc hx hb1 hw2 hb2 hw3 in
/-- All pixels' bias. -/
theorem bias_apply (n : Fin 576) (j : Fin 36) :
    k0_pay97 v494 (k0_pay88 v497 v498) (k0_pay91 (k0_pay89 v265 v494 v497 v498 b1) (k0_pay90 w2) b2 w3)
        (k0_pay93 (k0_pay88 v497 v498) (k0_pay92 v265 v494) b1 w2 b2 w3)
        (k0_pay94 v265) (k0_pay95 v265) (k0_pay96 v265) b1 w2 b2 w3 (ix2 n j)
      = D.bias n j :=
  blocks_apply D _ _ (k0_pay93 (k0_pay88 v497 v498) (lastRows v494 (k0_pay94 v265) (k0_pay95 v265) (k0_pay96 v265)) b1 w2 b2 w3)
    (bias0 D v265 v494 v497 v498 b1 w2 b2 w3 hgy hc hx hb1 hw2 hb2 hw3)
    (bias_block D v497 v498 b1 w2 b2 w3 hx hb1 hw2 hb2 hw3 1 (by omega) _ (ypart1 D v265 v494 hgy hc))
    (bias_block D v497 v498 b1 w2 b2 w3 hx hb1 hw2 hb2 hw3 2 (by omega) _ (ypart2 D v265 v494 hgy hc)) n j

end Bias

/-- The logits' last constant. -/
theorem last_apply (v684 : Vec Ideal S1x1 .f32) : k0_pay98 v684 = v684 (ix2 0 0) := by
  pointwise [k0_pay98]

/-- The group's contribution to the output. -/
theorem part_apply (D : Data) (v4 : FVec Ideal S576x96 .f32) (v461 v464 : FVec Ideal S96x36 .f32) (v683 : FVec Ideal S576x36 .f32)
    (v685 : Ideal .f32) (v700 : Vec Ideal S1x768x96 .bf16) (hq : ∀ n c, v4 (ix2 n c) = D.q n c)
    (hk : ∀ d j, v461 (ix2 d j) = D.kb d j) (hv : ∀ d j, v464 (ix2 d j) = D.vb d j) (hb : ∀ n j, v683 (ix2 n j) = D.bias n j)
    (h3 : v685 = D.d3) (ho : ∀ o d, v700 (ix3 0 o d) = D.wo o d) (o : Fin 768) (n : Fin 576) :
    k0_pay1 v4 v461 v464 v683 v685 v700 (ix2 o n) = D.part o n := by
  pointwise [k0_pay1]
  simp only [hq, hk, hv, hb, h3, ho, Consts.negInf]
  rfl

end Cert.KernelIdeal.Pay

end
-- ==== Proof.KBody.lean ====
/- What the kernel's body leaves in its output block, over the blocks it loads: one group's contribution, added to the
   bias at a batch entry's first group and to what was there before at the others. -/
module

public import proofs.«01_k».proof.Proof.KBias
public import proofs.«01_k».proof.Proof.Gen.KernelIdeal.Value
public import Idealize.ShloMosaic.Lib.Pipeline.ValueKit

@[expose] public section

set_option maxRecDepth 65536

noncomputable section

namespace Cert.KernelIdeal.Pay

open Idealize.ShloMosaic Cert.KernelIdeal Cert.KernelIdeal.Gen Cert.Spec Cert.Algebra

/-- The row coordinates, from the offsets. -/
def ygrid (o : FVec Ideal S2x36 .f32) : FVec Ideal S1x36 .f32 := k0_pay50 o k0_pay47 k0_pay48 k0_pay49 0#32

/-- The column coordinates, from the offsets. -/
def xgrid (o : FVec Ideal S2x36 .f32) : FVec Ideal S1x36 .f32 := k0_pay51 o (iota .tc S1x36 32 [1] iota_S1x36_d1_w32)

/-- The column coordinates on their way to pixel units. -/
def xscaled (o : FVec Ideal S2x36 .f32) : FVec Ideal S1x36 .f32 := k0_pay52 o (iota .tc S1x36 32 [1] iota_S1x36_d1_w32)

/-- The keys, from the offsets. -/
def keys (v1 : FVec Ideal S96x576 .f32) (o : FVec Ideal S2x36 .f32) (w : Vec Ideal S1x96x96 .f32) : FVec Ideal S96x36 .f32 :=
  k0_pay83 v1 (hot (ygrid o) (xscaled o)) (lastHot (ygrid o) (xscaled o)) (lastWeight (ygrid o) (xscaled o)) w

/-- The values, from the offsets. -/
def vals (v1 : FVec Ideal S96x576 .f32) (o : FVec Ideal S2x36 .f32) (w : Vec Ideal S1x96x96 .f32) : FVec Ideal S96x36 .f32 :=
  k0_pay84 v1 (hot (ygrid o) (xscaled o)) (lastHot (ygrid o) (xscaled o)) (lastWeight (ygrid o) (xscaled o)) w

/-- The position bias, from the offsets. -/
def posBias (o : FVec Ideal S2x36 .f32) (cx cy x8 : Vec Ideal S1x192 .f32) (x9 : Vec Ideal S192x192 .bf16)
    (x10 : Vec Ideal S1x192 .f32) (x11 : Vec Ideal S192x8 .f32) : FVec Ideal S576x36 .f32 :=
  k0_pay97 (k0_pay85 cy) (k0_pay88 (k0_pay86 (xgrid o)) (k0_pay87 cx))
    (k0_pay91 (k0_pay89 (ygrid o) (k0_pay85 cy) (k0_pay86 (xgrid o)) (k0_pay87 cx) x8) (k0_pay90 x9) x10 x11)
    (k0_pay93 (k0_pay88 (k0_pay86 (xgrid o)) (k0_pay87 cx)) (k0_pay92 (ygrid o) (k0_pay85 cy)) x8 x9 x10 x11)
    (k0_pay94 (ygrid o)) (k0_pay95 (ygrid o)) (k0_pay96 (ygrid o)) x8 x9 x10 x11

/-- What the body leaves at a batch entry's first group. -/
def fresh (x0 : Vec Ideal S1x1x96x576 .f32) (x1 x2 x3 : Vec Ideal S1x96x96 .f32) (x4 : Vec Ideal S6x6x96 .f32)
    (x5 : Vec Ideal S1x96 .f32) (x6 : Vec Ideal S2x96 .f32) (cx cy x8 : Vec Ideal S1x192 .f32) (x9 : Vec Ideal S192x192 .bf16)
    (x10 : Vec Ideal S1x192 .f32) (x11 : Vec Ideal S192x8 .f32) (x12 : Vec Ideal S1x1 .f32) (x13 : Vec Ideal S1x768x96 .bf16)
    (x14 : Vec Ideal S768x1 .f32) : FVec Ideal S1x768x576 .f32 :=
  k0_pay2 (k0_pay5 x0 x1) (keys (k0_pay4 x0) (offs x0 x1 x4 x5 x6) x2) (vals (k0_pay4 x0) (offs x0 x1 x4 x5 x6) x3)
    (posBias (offs x0 x1 x4 x5 x6) cx cy x8 x9 x10 x11) (k0_pay98 x12) x13 x14

/-- What the body leaves at a later group, over what was there. -/
def more (x0 : Vec Ideal S1x1x96x576 .f32) (x1 x2 x3 : Vec Ideal S1x96x96 .f32) (x4 : Vec Ideal S6x6x96 .f32)
    (x5 : Vec Ideal S1x96 .f32) (x6 : Vec Ideal S2x96 .f32) (cx cy x8 : Vec Ideal S1x192 .f32) (x9 : Vec Ideal S192x192 .bf16)
    (x10 : Vec Ideal S1x192 .f32) (x11 : Vec Ideal S192x8 .f32) (x12 : Vec Ideal S1x1 .f32) (x13 : Vec Ideal S1x768x96 .bf16)
    (prev : Vec Ideal S1x768x576 .f32) : FVec Ideal S1x768x576 .f32 :=
  k0_pay3 (k0_pay5 x0 x1) (keys (k0_pay4 x0) (offs x0 x1 x4 x5 x6) x2) (vals (k0_pay4 x0) (offs x0 x1 x4 x5 x6) x3)
    (posBias (offs x0 x1 x4 x5 x6) cx cy x8 x9 x10 x11) (k0_pay98 x12) x13 prev

/-- The blocks hold the data of one batch entry and one group. -/
structure Reads (D : Data) (x0 : Vec Ideal S1x1x96x576 .f32) (x1 x2 x3 : Vec Ideal S1x96x96 .f32) (x4 : Vec Ideal S6x6x96 .f32)
    (x5 : Vec Ideal S1x96 .f32) (x6 : Vec Ideal S2x96 .f32) (cx cy x8 : Vec Ideal S1x192 .f32) (x9 : Vec Ideal S192x192 .bf16)
    (x10 : Vec Ideal S1x192 .f32) (x11 : Vec Ideal S192x8 .f32) (x12 : Vec Ideal S1x1 .f32) (x13 : Vec Ideal S1x768x96 .bf16) :
    Prop where
  x : ∀ d n, x0 (ix4 0 0 d n) = D.x d n
  wq : ∀ c d, x1 (ix3 0 c d) = D.wq c d
  wk : ∀ c d, x2 (ix3 0 c d) = D.wk c d
  wv : ∀ c d, x3 (ix3 0 c d) = D.wv c d
  w1 : ∀ a b c, x4 (ix3 a b c) = D.w1 a b c
  b1 : ∀ c, x5 (ix2 0 c) = D.b1 c
  w2 : ∀ a c, x6 (ix2 a c) = D.w2 a c
  cx : ∀ e, cx (ix2 0 e) = D.c1 0 e
  cy : ∀ e, cy (ix2 0 e) = D.c1 1 e
  d1 : ∀ e, x8 (ix2 0 e) = D.d1 e
  c2 : ∀ o i, x9 (ix2 o i) = D.c2 o i
  d2 : ∀ e, x10 (ix2 0 e) = D.d2 e
  c3 : ∀ e, x11 (ix2 e 0) = D.c3 e
  d3 : x12 (ix2 0 0) = D.d3
  wo : ∀ o d, x13 (ix3 0 o d) = D.wo o d

section Body

variable {D : Data} {x0 : Vec Ideal S1x1x96x576 .f32} {x1 x2 x3 : Vec Ideal S1x96x96 .f32} {x4 : Vec Ideal S6x6x96 .f32}
  {x5 : Vec Ideal S1x96 .f32} {x6 : Vec Ideal S2x96 .f32} {cx cy x8 : Vec Ideal S1x192 .f32} {x9 : Vec Ideal S192x192 .bf16}
  {x10 : Vec Ideal S1x192 .f32} {x11 : Vec Ideal S192x8 .f32} {x12 : Vec Ideal S1x1 .f32} {x13 : Vec Ideal S1x768x96 .bf16}
  (h : Reads D x0 x1 x2 x3 x4 x5 x6 cx cy x8 x9 x10 x11 x12 x13)

include h

/-- The offsets. -/
theorem body_offs (a : Fin 2) (j : Fin 36) : offs x0 x1 x4 x5 x6 (ix2 a j) = D.off a j :=
  offs_apply D x0 x1 x4 x5 x6 h.x h.wq h.w1 h.b1 h.w2 a j

/-- The sampled image. -/
theorem body_kv (d : Fin 96) (j : Fin 36) :
    k0_pay82 (k0_pay4 x0) (hot (ygrid (offs x0 x1 x4 x5 x6)) (xscaled (offs x0 x1 x4 x5 x6)))
      (lastHot (ygrid (offs x0 x1 x4 x5 x6)) (xscaled (offs x0 x1 x4 x5 x6)))
      (lastWeight (ygrid (offs x0 x1 x4 x5 x6)) (xscaled (offs x0 x1 x4 x5 x6))) (ix2 d j) = D.kv d j := by
  have hgx := gx_apply D _ (body_offs h)
  refine kv_apply D _ _ _ (fun d n => ?_) (gy_apply D _ (body_offs h)) (fun j => ?_) d j
  · pointwise [k0_pay4]; exact h.x d n
  · have := hgx j
    unfold xscaled k0_pay52
    generalize k0_pay51 (F := Ideal) _ _ = a at this
    pointwise []
    rw [this, Consts.c24]

/-- The keys. -/
theorem body_keys (d : Fin 96) (j : Fin 36) : keys (k0_pay4 x0) (offs x0 x1 x4 x5 x6) x2 (ix2 d j) = D.kb d j := by
  have hk := body_kv h
  unfold keys k0_pay83
  generalize k0_pay82 (F := Ideal) _ _ _ _ = kv at hk
  pointwise []
  simp only [h.wk, hk]
  rfl

/-- The values. -/
theorem body_vals (d : Fin 96) (j : Fin 36) : vals (k0_pay4 x0) (offs x0 x1 x4 x5 x6) x3 (ix2 d j) = D.vb d j := by
  have hk := body_kv h
  unfold vals k0_pay84
  generalize k0_pay82 (F := Ideal) _ _ _ _ = kv at hk
  pointwise []
  simp only [h.wv, hk]
  rfl

/-- The position bias. -/
theorem body_bias (n : Fin 576) (j : Fin 36) : posBias (offs x0 x1 x4 x5 x6) cx cy x8 x9 x10 x11 (ix2 n j) = D.bias n j :=
  bias_apply D (ygrid (offs x0 x1 x4 x5 x6)) (k0_pay85 cy) _ _ x8 x9 x10 x11 (gy_apply D _ (body_offs h))
    (fun e => by pointwise [k0_pay85]; exact h.cy e)
    (xpart D _ cx (gx_apply D _ (body_offs h)) h.cx) h.d1 h.c2 h.d2 h.c3 n j

/-- The group's contribution. -/
theorem body_part (o : Fin 768) (n : Fin 576) :
    k0_pay1 (k0_pay5 x0 x1) (keys (k0_pay4 x0) (offs x0 x1 x4 x5 x6) x2) (vals (k0_pay4 x0) (offs x0 x1 x4 x5 x6) x3)
      (posBias (offs x0 x1 x4 x5 x6) cx cy x8 x9 x10 x11) (k0_pay98 x12) x13 (ix2 o n) = D.part o n :=
  part_apply D _ _ _ _ _ x13 (pay5 D x0 x1 h.x h.wq) (body_keys h) (body_vals h) (body_bias h)
    ((last_apply x12).trans h.d3) h.wo o n

/-- At a first group the block holds the contribution and the bias. -/
theorem fresh_apply (x14 : Vec Ideal S768x1 .f32) (bo : Fin 768 → EReal) (hb : ∀ o, x14 (ix2 o 0) = bo o) (o : Fin 768) (n : Fin 576) :
    fresh x0 x1 x2 x3 x4 x5 x6 cx cy x8 x9 x10 x11 x12 x13 x14 (ix3 0 o n) = D.part o n + bo o := by
  have hp := body_part h o n
  unfold fresh k0_pay2
  generalize k0_pay1 (F := Ideal) _ _ _ _ _ _ = p at hp
  pointwise []
  rw [hp, hb]

/-- At a later group the contribution is added. -/
theorem more_apply (prev : Vec Ideal S1x768x576 .f32) (o : Fin 768) (n : Fin 576) :
    more x0 x1 x2 x3 x4 x5 x6 cx cy x8 x9 x10 x11 x12 x13 prev (ix3 0 o n) = prev (ix3 0 o n) + D.part o n := by
  have hp := body_part h o n
  unfold more k0_pay3
  generalize k0_pay1 (F := Ideal) _ _ _ _ _ _ = p at hp
  pointwise []
  rw [hp]

end Body

variable (m : (ℓ : Loc nD τ sig) → Buf (Elt Ideal) ℓ)

/-- The column part of the first layer's weights, as the body loads it. -/
def colRow (x7 : Vec Ideal S2x192 .f32) : Vec Ideal S1x192 .f32 :=
  View.ld x7 (Rect.unit (s := S2x192) ![0, 0] S1x192.size inb_S2x192_S1x192_0_0)

/-- The row part of the first layer's weights, as the body loads it. -/
def rowRow (x7 : Vec Ideal S2x192 .f32) : Vec Ideal S1x192 .f32 :=
  View.ld x7 (Rect.unit (s := S2x192) ![1, 0] S1x192.size inb_S2x192_S1x192_1_0)

/-- The output block after a first group. -/
theorem block_first (c : Dev nD) (t : Fin cfg0.N) (h0 : t.val % 8 = 0) (h1 : ¬1 ≤ t.val % 8) :
    outsAt0 m c t.val t.isLt
      = fresh (iblk m c 0 t) (iblk m c 1 t) (iblk m c 2 t) (iblk m c 3 t) (iblk m c 4 t) (iblk m c 5 t) (iblk m c 6 t)
          (colRow (iblk m c 7 t)) (rowRow (iblk m c 7 t)) (iblk m c 8 t) (iblk m c 9 t) (iblk m c 10 t) (iblk m c 11 t)
          (iblk m c 12 t) (iblk m c 13 t) (iblk m c 14 t) := by
  rw [outsAt0_A m c t h0 h1]; frame_out
  rfl

/-- The output block after a later group. -/
theorem block_more (c : Dev nD) (t : Fin cfg0.N) (h0 : ¬t.val % 8 = 0) (h1 : 1 ≤ t.val % 8) :
    outsAt0 m c t.val t.isLt
      = more (iblk m c 0 t) (iblk m c 1 t) (iblk m c 2 t) (iblk m c 3 t) (iblk m c 4 t) (iblk m c 5 t) (iblk m c 6 t)
          (colRow (iblk m c 7 t)) (rowRow (iblk m c 7 t)) (iblk m c 8 t) (iblk m c 9 t) (iblk m c 10 t) (iblk m c 11 t)
          (iblk m c 12 t) (iblk m c 13 t) (outsAt0 m c (t.val - 1) (by omega)) := by
  rw [outsAt0_B m c t h0 h1]; frame_out
  rfl

end Cert.KernelIdeal.Pay

end
-- ==== Proof.Args.lean ====
/- The whole computation over the argument arrays: each batch entry's and each group's data, and the result. -/
module

public import proofs.«01_k».proof.Proof.Spec
public import Idealize.ShloMosaic.Lib.Pointwise

@[expose] public section

noncomputable section

namespace Cert.Spec

open Idealize.ShloMosaic

/-- Channel `d` of group `g` among all channels. -/
def ch (g : Fin 8) (d : Fin 96) : Fin 768 := ⟨g.val * 96 + d.val, by omega⟩

/-- The argument arrays. -/
@[ext] structure Args where
  /-- the image, batch by channel by pixel -/
  x : FVec Ideal ⟨3, ![4, 768, 576]⟩ .f32
  /-- query projection -/
  wq : FVec Ideal ⟨4, ![768, 96, 1, 1]⟩ .f32
  /-- key projection -/
  wk : FVec Ideal ⟨4, ![768, 96, 1, 1]⟩ .f32
  /-- value projection -/
  wv : FVec Ideal ⟨4, ![768, 96, 1, 1]⟩ .f32
  /-- depthwise weights -/
  w1 : FVec Ideal ⟨4, ![96, 1, 6, 6]⟩ .f32
  /-- depthwise bias -/
  b1 : FVec Ideal ⟨1, ![96]⟩ .f32
  /-- offset projection -/
  w2 : FVec Ideal ⟨4, ![2, 96, 1, 1]⟩ .f32
  /-- first layer of the position network -/
  c1 : FVec Ideal ⟨2, ![192, 2]⟩ .f32
  /-- its bias -/
  d1 : FVec Ideal ⟨1, ![192]⟩ .f32
  /-- second layer -/
  c2 : FVec Ideal ⟨2, ![192, 192]⟩ .f32
  /-- its bias -/
  d2 : FVec Ideal ⟨1, ![192]⟩ .f32
  /-- third layer -/
  c3 : FVec Ideal ⟨2, ![1, 192]⟩ .f32
  /-- its bias -/
  d3 : FVec Ideal ⟨1, ![1]⟩ .f32
  /-- output projection -/
  wo : FVec Ideal ⟨4, ![768, 768, 1, 1]⟩ .f32
  /-- its bias -/
  bo : FVec Ideal ⟨1, ![768]⟩ .f32

namespace Args

variable (A : Args)

/-- The data of batch entry `b` and group `g`; the attention scale is put in the keys. -/
def group (b : Fin 4) (g : Fin 8) : Data where
  x d n := A.x (ix3 b (ch g d) n)
  wq c d := A.wq (ix4 (ch g c) d 0 0)
  wk c d := A.wk (ix4 (ch g c) d 0 0) * Ideal.ofBits .f32 0x3DD105EC#32
  wv c d := A.wv (ix4 (ch g c) d 0 0)
  w1 i j c := A.w1 (ix4 c 0 i j)
  b1 c := A.b1 (ix1 c)
  w2 a c := A.w2 (ix4 a c 0 0)
  c1 a e := A.c1 (ix2 e a)
  d1 e := A.d1 (ix1 e)
  c2 o i := A.c2 (ix2 o i)
  d2 e := A.d2 (ix1 e)
  c3 e := A.c3 (ix2 0 e)
  d3 := A.d3 (ix1 0)
  wo o d := A.wo (ix4 o (ch g d) 0 0)

/-- The result: the groups' contributions and the output bias. -/
def result (b : Fin 4) (o : Fin 768) (n : Fin 576) : EReal :=
  (∑ g : Fin 8, (A.group b g).part o n) + A.bo (ix1 o)

end Args

end Cert.Spec

end
-- ==== Proof.KEntry.lean ====
/- What the kernel's blocks hold: the windows' positions, and the host operations before the launch. -/
module

public import proofs.«01_k».proof.Proof.KBody
public import proofs.«01_k».proof.Proof.Args
public import Idealize.ShloMosaic.Lib.Routing.OpsOne

@[expose] public section

set_option maxRecDepth 65536

noncomputable section

namespace Cert.KernelIdeal.Pay

open Idealize.ShloMosaic Idealize.ShloMosaic.TcCoe Cert.KernelIdeal Cert.KernelIdeal.Gen Cert.Spec Cert.Algebra

variable (m : (ℓ : Loc nD τ sig) → Buf (Elt Ideal) ℓ)

/-- The batch entry of a grid point. -/
def batch (t : Fin cfg0.N) : Fin 4 := ⟨t.val / 8, by have := t.isLt; have : cfg0.N = 32 := rfl; omega⟩

/-- The group of a grid point. -/
def grp (t : Fin cfg0.N) : Fin 8 := ⟨t.val % 8, by omega⟩

/-- The argument arrays of the launch. -/
def args (c : Dev nD) : Args where
  x := m ((c : Thread nD τ).loc main_arg0)
  wq := m ((c : Thread nD τ).loc main_arg1)
  wk := m ((c : Thread nD τ).loc main_arg2)
  wv := m ((c : Thread nD τ).loc main_arg3)
  w1 := m ((c : Thread nD τ).loc main_arg4)
  b1 := m ((c : Thread nD τ).loc main_arg5)
  w2 := m ((c : Thread nD τ).loc main_arg6)
  c1 := m ((c : Thread nD τ).loc main_arg7)
  d1 := m ((c : Thread nD τ).loc main_arg8)
  c2 := m ((c : Thread nD τ).loc main_arg9)
  d2 := m ((c : Thread nD τ).loc main_arg10)
  c3 := m ((c : Thread nD τ).loc main_arg11)
  d3 := m ((c : Thread nD τ).loc main_arg12)
  wo := m ((c : Thread nD τ).loc main_arg13)
  bo := m ((c : Thread nD τ).loc main_arg14)

/-- The image's window. -/
theorem at0 : ∀ t : Fin cfg0.N, win0_0.index t = ![t.val / 8, t.val % 8, 0, 0] :=
  (by decide +kernel : ∀ t : Fin grid0.N, _)
/-- The query projection's window. -/
theorem at1 : ∀ t : Fin cfg0.N, win0_1.index t = ![t.val % 8, 0, 0] := (by decide +kernel : ∀ t : Fin grid0.N, _)
/-- The key projection's window. -/
theorem at2 : ∀ t : Fin cfg0.N, win0_2.index t = ![t.val % 8, 0, 0] := (by decide +kernel : ∀ t : Fin grid0.N, _)
/-- The value projection's window. -/
theorem at3 : ∀ t : Fin cfg0.N, win0_3.index t = ![t.val % 8, 0, 0] := (by decide +kernel : ∀ t : Fin grid0.N, _)
/-- The depthwise weights' window. -/
theorem at4 : ∀ t : Fin cfg0.N, win0_4.index t = ![0, 0, 0] := (by decide +kernel : ∀ t : Fin grid0.N, _)
/-- The depthwise bias' window. -/
theorem at5 : ∀ t : Fin cfg0.N, win0_5.index t = ![0, 0] := (by decide +kernel : ∀ t : Fin grid0.N, _)
/-- The offset projection's window. -/
theorem at6 : ∀ t : Fin cfg0.N, win0_6.index t = ![0, 0] := (by decide +kernel : ∀ t : Fin grid0.N, _)
/-- The first layer's window. -/
theorem at7 : ∀ t : Fin cfg0.N, win0_7.index t = ![0, 0] := (by decide +kernel : ∀ t : Fin grid0.N, _)
/-- The first layer's bias' window. -/
theorem at8 : ∀ t : Fin cfg0.N, win0_8.index t = ![0, 0] := (by decide +kernel : ∀ t : Fin grid0.N, _)
/-- The second layer's window. -/
theorem at9 : ∀ t : Fin cfg0.N, win0_9.index t = ![0, 0] := (by decide +kernel : ∀ t : Fin grid0.N, _)
/-- The second layer's bias' window. -/
theorem at10 : ∀ t : Fin cfg0.N, win0_10.index t = ![0, 0] := (by decide +kernel : ∀ t : Fin grid0.N, _)
/-- The third layer's window. -/
theorem at11 : ∀ t : Fin cfg0.N, win0_11.index t = ![0, 0] := (by decide +kernel : ∀ t : Fin grid0.N, _)
/-- The third layer's bias' window. -/
theorem at12 : ∀ t : Fin cfg0.N, win0_12.index t = ![0, 0] := (by decide +kernel : ∀ t : Fin grid0.N, _)
/-- The output projection's window. -/
theorem at13 : ∀ t : Fin cfg0.N, win0_13.index t = ![t.val % 8, 0, 0] := (by decide +kernel : ∀ t : Fin grid0.N, _)
/-- The output bias' window. -/
theorem at14 : ∀ t : Fin cfg0.N, win0_14.index t = ![0, 0] := (by decide +kernel : ∀ t : Fin grid0.N, _)
/-- The result's window. -/
theorem at15 : ∀ t : Fin cfg0.N, win0_15.index t = ![t.val / 8, 0, 0] := (by decide +kernel : ∀ t : Fin grid0.N, _)

/-- The image. -/
theorem read0 (c : Dev nD) (t : Fin cfg0.N) (d : Fin 96) (n : Fin 576) :
    iblk m c 0 t (ix4 0 0 d n) = ((args m c).group (batch t) (grp t)).x d n := by
  blk_simp [iblk, at0]
  entry_read
  pointwise []
  show m ((c : Thread nD τ).loc main_arg0) _ = m ((c : Thread nD τ).loc main_arg0) _
  blk_ext [at0, batch, grp, ch]

/-- The query projection. -/
theorem read1 (c : Dev nD) (t : Fin cfg0.N) (k d : Fin 96) :
    iblk m c 1 t (ix3 0 k d) = ((args m c).group (batch t) (grp t)).wq k d := by
  blk_simp [iblk, at1]
  entry_read
  pointwise []
  show m ((c : Thread nD τ).loc main_arg1) _ = m ((c : Thread nD τ).loc main_arg1) _
  blk_ext [at1, batch, grp, ch]

/-- The key projection, scaled. -/
theorem read2 (c : Dev nD) (t : Fin cfg0.N) (k d : Fin 96) :
    iblk m c 2 t (ix3 0 k d) = ((args m c).group (batch t) (grp t)).wk k d := by
  blk_simp [iblk, at2]
  entry_read
  pointwise []
  refine congrArg (· * Ideal.ofBits .f32 0x3DD105EC#32) ?_
  show m ((c : Thread nD τ).loc main_arg2) _ = m ((c : Thread nD τ).loc main_arg2) _
  blk_ext [at2, batch, grp, ch]

/-- The value projection. -/
theorem read3 (c : Dev nD) (t : Fin cfg0.N) (k d : Fin 96) :
    iblk m c 3 t (ix3 0 k d) = ((args m c).group (batch t) (grp t)).wv k d := by
  blk_simp [iblk, at3]
  entry_read
  pointwise []
  show m ((c : Thread nD τ).loc main_arg3) _ = m ((c : Thread nD τ).loc main_arg3) _
  blk_ext [at3, batch, grp, ch]

/-- The depthwise weights. -/
theorem read4 (c : Dev nD) (t : Fin cfg0.N) (a b : Fin 6) (d : Fin 96) :
    iblk m c 4 t (ix3 a b d) = ((args m c).group (batch t) (grp t)).w1 a b d := by
  blk_simp [iblk, at4]
  entry_read
  pointwise []
  show m ((c : Thread nD τ).loc main_arg4) _ = m ((c : Thread nD τ).loc main_arg4) _
  blk_ext [at4, batch, grp, ch]

/-- The depthwise bias. -/
theorem read5 (c : Dev nD) (t : Fin cfg0.N) (d : Fin 96) :
    iblk m c 5 t (ix2 0 d) = ((args m c).group (batch t) (grp t)).b1 d := by
  blk_simp [iblk, at5]
  entry_read
  pointwise []
  show m ((c : Thread nD τ).loc main_arg5) _ = m ((c : Thread nD τ).loc main_arg5) _
  blk_ext [at5, batch, grp, ch]

/-- The offset projection. -/
theorem read6 (c : Dev nD) (t : Fin cfg0.N) (a : Fin 2) (d : Fin 96) :
    iblk m c 6 t (ix2 a d) = ((args m c).group (batch t) (grp t)).w2 a d := by
  blk_simp [iblk, at6]
  entry_read
  pointwise []
  show m ((c : Thread nD τ).loc main_arg6) _ = m ((c : Thread nD τ).loc main_arg6) _
  blk_ext [at6, batch, grp, ch]

/-- The position network's first layer. -/
theorem read7 (c : Dev nD) (t : Fin cfg0.N) (a : Fin 2) (e : Fin 192) :
    iblk m c 7 t (ix2 a e) = ((args m c).group (batch t) (grp t)).c1 a e := by
  blk_simp [iblk, at7]
  entry_read
  pointwise []
  show m ((c : Thread nD τ).loc main_arg7) _ = m ((c : Thread nD τ).loc main_arg7) _
  blk_ext [at7, batch, grp, ch]

/-- Its bias. -/
theorem read8 (c : Dev nD) (t : Fin cfg0.N) (e : Fin 192) :
    iblk m c 8 t (ix2 0 e) = ((args m c).group (batch t) (grp t)).d1 e := by
  blk_simp [iblk, at8]
  entry_read
  pointwise []
  show m ((c : Thread nD τ).loc main_arg8) _ = m ((c : Thread nD τ).loc main_arg8) _
  blk_ext [at8, batch, grp, ch]

/-- The second layer. -/
theorem read9 (c : Dev nD) (t : Fin cfg0.N) (k e : Fin 192) :
    iblk m c 9 t (ix2 k e) = ((args m c).group (batch t) (grp t)).c2 k e := by
  blk_simp [iblk, at9]
  entry_read
  pointwise []
  show m ((c : Thread nD τ).loc main_arg9) _ = m ((c : Thread nD τ).loc main_arg9) _
  blk_ext [at9, batch, grp, ch]

/-- Its bias. -/
theorem read10 (c : Dev nD) (t : Fin cfg0.N) (e : Fin 192) :
    iblk m c 10 t (ix2 0 e) = ((args m c).group (batch t) (grp t)).d2 e := by
  blk_simp [iblk, at10]
  entry_read
  pointwise []
  show m ((c : Thread nD τ).loc main_arg10) _ = m ((c : Thread nD τ).loc main_arg10) _
  blk_ext [at10, batch, grp, ch]

/-- The third layer, in column 0 of its padded block. -/
theorem read11 (c : Dev nD) (t : Fin cfg0.N) (k : Fin 192) :
    iblk m c 11 t (ix2 k 0) = ((args m c).group (batch t) (grp t)).c3 k := by
  blk_simp [iblk, at11]
  entry_read
  have hw : (broadcastInDim S1 ![] bcast_S_S1 (constantI S_ 32 0#32) (ix1 0)).toInt = (((0 : Fin 8).val : ℕ) : ℤ) := rfl
  have hi : ((View.whole main_v20).slice (win0_11.rect t)).emb (ix2 k 0) = (ix2 k (0 : Fin 8) : S192x8.Idx) := by
    blk_ext [at11]
  rw [hi]
  refine (Routing.scatter_set_hit scatter_S192x8_S1_S192_0_1_1_0 _ _ _ _
    (m ((c : Thread nD τ).loc main_arg11) (ix2 0 k)) (fun j hj => ?_) (ix1 k)
    ((Routing.lands_col _ rfl rfl _ 0 hw k k 0).2 ⟨rfl, rfl⟩)).trans rfl
  have hk : j 0 = k := ((Routing.lands_col _ rfl rfl _ 0 hw (j 0) k 0).1
    ((congrArg (fun t => scatter_S192x8_S1_S192_0_1_1_0.resultIdx? t _) (eq_ix1 j).symm).trans hj)).1
  pointwise []
  rw [hk]

/-- Its bias. -/
theorem read12 (c : Dev nD) (t : Fin cfg0.N)  :
    iblk m c 12 t (ix2 0 0) = ((args m c).group (batch t) (grp t)).d3 := by
  blk_simp [iblk, at12]
  entry_read
  pointwise []
  show m ((c : Thread nD τ).loc main_arg12) _ = m ((c : Thread nD τ).loc main_arg12) _
  blk_ext [at12, batch, grp, ch]

/-- The group's columns of the output projection. -/
theorem read13 (c : Dev nD) (t : Fin cfg0.N) (o : Fin 768) (d : Fin 96) :
    iblk m c 13 t (ix3 0 o d) = ((args m c).group (batch t) (grp t)).wo o d := by
  blk_simp [iblk, at13]
  entry_read
  pointwise []
  show m ((c : Thread nD τ).loc main_arg13) _ = m ((c : Thread nD τ).loc main_arg13) _
  blk_ext [at13, batch, grp, ch]

/-- The output bias. -/
theorem read14 (c : Dev nD) (t : Fin cfg0.N) (o : Fin 768) :
    iblk m c 14 t (ix2 o 0) = (args m c).bo (ix1 o) := by
  blk_simp [iblk, at14]
  entry_read
  pointwise []
  show m ((c : Thread nD τ).loc main_arg14) _ = m ((c : Thread nD τ).loc main_arg14) _
  blk_ext [at14, batch, grp, ch]

/-- The blocks of grid point `t` hold the data of its batch entry and group. -/
theorem reads (c : Dev nD) (t : Fin cfg0.N) :
    Reads ((args m c).group (batch t) (grp t)) (iblk m c 0 t) (iblk m c 1 t) (iblk m c 2 t) (iblk m c 3 t) (iblk m c 4 t)
      (iblk m c 5 t) (iblk m c 6 t) (colRow (iblk m c 7 t)) (rowRow (iblk m c 7 t)) (iblk m c 8 t) (iblk m c 9 t)
      (iblk m c 10 t) (iblk m c 11 t) (iblk m c 12 t) (iblk m c 13 t) where
  x := read0 m c t
  wq := read1 m c t
  wk := read2 m c t
  wv := read3 m c t
  w1 := read4 m c t
  b1 := read5 m c t
  w2 := read6 m c t
  cx e := by
    refine Eq.trans ?_ (read7 m c t 0 e)
    generalize iblk m c 7 t = B
    pointwise [colRow]
  cy e := by
    refine Eq.trans ?_ (read7 m c t 1 e)
    generalize iblk m c 7 t = B
    pointwise [rowRow]
  d1 := read8 m c t
  c2 := read9 m c t
  d2 := read10 m c t
  c3 := read11 m c t
  d3 := read12 m c t
  wo := read13 m c t

/-- The groups' contributions up to group `k`, with the output bias. -/
def upto (A : Args) (b : Fin 4) (k : ℕ) (o : Fin 768) (n : Fin 576) : EReal :=
  (∑ g ∈ Finset.univ.filter (fun g : Fin 8 => g.val ≤ k), (A.group b g).part o n) + A.bo (ix1 o)

/-- The first group. -/
theorem upto_zero (A : Args) (b : Fin 4) (g : Fin 8) (hg : g.val = 0) (o : Fin 768) (n : Fin 576) :
    upto A b g.val o n = (A.group b g).part o n + A.bo (ix1 o) := by
  obtain rfl : g = 0 := Fin.ext hg
  unfold upto
  rw [show Finset.univ.filter (fun g : Fin 8 => g.val ≤ (0 : Fin 8).val) = {0} by decide, Finset.sum_singleton]

/-- One more group. -/
theorem upto_succ (A : Args) (b : Fin 4) (g : Fin 8) (hg : 1 ≤ g.val) (o : Fin 768) (n : Fin 576) :
    upto A b g.val o n = upto A b (g.val - 1) o n + (A.group b g).part o n := by
  unfold upto
  have : Finset.univ.filter (fun h : Fin 8 => h.val ≤ g.val)
      = insert g (Finset.univ.filter (fun h : Fin 8 => h.val ≤ g.val - 1)) := by
    ext h; simp only [Finset.mem_filter, Finset.mem_univ, true_and, Finset.mem_insert, Fin.ext_iff]; omega
  rw [this, Finset.sum_insert (by simp only [Finset.mem_filter, Finset.mem_univ, true_and]; omega)]
  abel

/-- The whole of it. -/
theorem upto_all (A : Args) (b : Fin 4) (o : Fin 768) (n : Fin 576) : upto A b 7 o n = A.result b o n := by
  unfold upto Args.result
  rw [Finset.filter_true_of_mem (fun g _ => by omega)]

/-- The output block after each grid point. -/
theorem block_eq (c : Dev nD) (o : Fin 768) (n : Fin 576) : ∀ (k : ℕ) (hk : k < cfg0.N),
    outsAt0 m c k hk (ix3 0 o n) = upto (args m c) (batch ⟨k, hk⟩) (grp ⟨k, hk⟩).val o n := by
  intro k
  induction k using Nat.strong_induction_on with
  | _ k ih =>
    intro hk
    by_cases h0 : k % 8 = 0
    · refine (congrFun (block_first m c ⟨k, hk⟩ h0 (by show ¬1 ≤ k % 8; omega)) _).trans ?_
      refine (fresh_apply (reads m c ⟨k, hk⟩) _ _ (read14 m c ⟨k, hk⟩) o n).trans ?_
      exact (upto_zero _ _ _ h0 o n).symm
    · have h1 : 1 ≤ k % 8 := by omega
      refine (congrFun (block_more m c ⟨k, hk⟩ h0 h1) _).trans ?_
      refine (more_apply (reads m c ⟨k, hk⟩) _ o n).trans ?_
      refine (congrArg (· + _) (ih (k - 1) (by omega) (by omega))).trans ?_
      have hb : batch ⟨k - 1, by omega⟩ = batch ⟨k, hk⟩ := Fin.ext (by show (k - 1) / 8 = k / 8; omega)
      have hg : (grp ⟨k - 1, by omega⟩).val = (grp ⟨k, hk⟩).val - 1 := by show (k - 1) % 8 = k % 8 - 1; omega
      rw [hb, hg]
      exact (upto_succ _ _ _ h1 o n).symm

/-- The kernel's result. -/
theorem final (c : Dev nD) :
    (dats m 0 c).arrAt 15 cfg0.N = fun i => (args m c).result (i 0) (i 1) (i 2) := by
  refine (dats m 0 c).arrAt_eq_of_covers 15 _ (by decide +kernel) fun t hf y => ?_
  have ht : t.val % 8 = 7 := (flush0_15 t).mp hf
  blk_simp
  rw [after0_15]
  have hy : y = (ix3 (0 : Fin 1) (y 1) (y 2) : S1x768x576.Idx) := by
    refine (eq_ix3 (y : S1x768x576.Idx)).trans ?_
    congr 1
    exact Subsingleton.elim (α := Fin 1) _ _
  have e0 : (win0_15.blk t).view.emb y 0 = batch t := Fin.ext (by blk_simp [at15, batch])
  have e1 : (win0_15.blk t).view.emb y 1 = (y 1 : Fin 768) := Fin.ext (by blk_simp [at15])
  have e2 : (win0_15.blk t).view.emb y 2 = (y 2 : Fin 576) := Fin.ext (by blk_simp [at15])
  refine (congrArg (outsAt0 m c t.val t.isLt) hy).trans ((block_eq m c (y 1) (y 2) t.val t.isLt).trans ?_)
  refine (congrArg (fun k => upto (args m c) (batch t) k (y 1) (y 2)) ht).trans ?_
  exact (upto_all (args m c) (batch t) (y 1) (y 2)).trans (congr (congr (congrArg (args m c).result e0) e1) e2).symm

end Cert.KernelIdeal.Pay

end
-- ==== Proof.RConv.lean ====
/- The reference's first stages: the queries, the depthwise convolution, the offsets. -/
module

public import proofs.«01_k».proof.Proof.Args
public import proofs.«01_k».proof.Proof.Algebra
public import proofs.«01_k».proof.Proof.Consts
public import proofs.«01_k».proof.Proof.Gen.ReferenceIdeal.Read

@[expose] public section

set_option maxRecDepth 16384

noncomputable section

namespace Cert.ReferenceIdeal.Stage

open Idealize.ShloMosaic Cert Cert.ReferenceIdeal Cert.ReferenceIdeal.Gen Cert.ReferenceIdeal.Read Cert.Spec Cert.Algebra

variable (A : Args)

/-- The queries. -/
theorem q (b : Fin 4) (g : Fin 8) (c : Fin 96) (n : Fin 576) :
    val_main_v4 (F := Ideal) A.x A.wq (ix4 b g c n) = (A.group b g).q n c := by
  pointwise [val_main_v4, val_main_v3, val_main_v2, val_main_v1, val_main_v0]
  rfl

/-- The padded image of the queries. -/
theorem pad_apply (b : Fin 4) (g : Fin 8) (c : Fin 96) (r s : Fin 26) :
    val_main_v6 (F := Ideal) A.x A.wq (ix5 b g c r s) = padded (A.group b g).q r s c := by
  have hq := q A b g c
  unfold val_main_v6 val_main_v5
  generalize val_main_v4 (F := Ideal) A.x A.wq = v at hq
  pointwise [val_main_call0_v0, val_main_c]
  unfold padded
  by_cases h : 1 ≤ r.val ∧ r.val < 25 ∧ 1 ≤ s.val ∧ s.val < 25
  · rw [dif_pos h, dif_pos (by omega)]
    exact hq _
  · rw [dif_neg h, dif_neg (by omega)]
    show (((0#32 : BitVec 32).toInt : ℝ) : EReal) = 0
    simp

/-- The shifts of the window lie in the padded image. -/
theorem shift_image (i j : Fin 6) : S4x8x96x26x26.SlicesBy ![0, 0, 0, i.val, j.val] ![1, 1, 1, 4, 4] S4x8x96x6x6 := by
  revert i j; decide

/-- The shifts of the window lie in the weights. -/
theorem shift_weight (i j : Fin 6) : S96x1x6x6.Slices ![0, 0, i.val, j.val] S96x1x1x1 := by
  revert i j; decide

/-- One shifted product of the depthwise convolution, as the reference computes it. -/
def shifted (P : FVec Ideal S4x8x96x26x26 .f32) (w : FVec Ideal S96x1x6x6 .f32) (i j : Fin 6) :
    FVec Ideal S4x8x96x6x6 .f32 :=
  mulf (Host.slice S4x8x96x6x6 ![0, 0, 0, i.val, j.val] ![1, 1, 1, 4, 4] P (shift_image i j))
    (broadcastInDim S4x8x96x6x6 ![0, 1, 2, 3, 4] bcast_S1x1x96x1x1_S4x8x96x6x6_0_1_2_3_4
      (broadcastInDim S1x1x96x1x1 ![2] bcast_S96_S1x1x96x1x1_2
        (shapeCast S96 (extractStridedSlice S96x1x1x1 ![0, 0, i.val, j.val] w (shift_weight i j)) shapeCasts_S96x1x1x1_S96)))

/-- Its entries. -/
theorem shifted_apply (P : FVec Ideal S4x8x96x26x26 .f32) (w : FVec Ideal S96x1x6x6 .f32) (i j : Fin 6)
    (b : Fin 4) (g : Fin 8) (c : Fin 96) (oy ox : Fin 6) :
    shifted P w i j (ix5 b g c oy ox)
      = P (ix5 b g c ⟨4 * oy.val + i.val, by omega⟩ ⟨4 * ox.val + j.val, by omega⟩) * w (ix4 c 0 i j) := by
  pointwise [shifted]
  congr 2 <;> simp only [Nat.add_comm]

/-- The depthwise convolution is the sum of its shifted products. -/
theorem sum_shifted (y : S4x8x96x6x6.Idx) :
    val_main_v257 (F := Ideal) A.x A.wq A.w1 y
      = ∑ i : Fin 6, ∑ j : Fin 6, shifted (val_main_v6 (F := Ideal) A.x A.wq) A.w1 i j y := by
  simp only [Fin.sum_univ_six, ← add_assoc]
  rfl

/-- The convolution with its bias. -/
theorem conv (b : Fin 4) (g : Fin 8) (c : Fin 96) (j : Fin 36) :
    val_main_v261 (F := Ideal) A.x A.wq A.w1 A.b1 (ix4 b g c j) = (A.group b g).conv j c := by
  have hs : ∀ y : S4x8x96x6x6.Idx, _ := sum_shifted A
  unfold val_main_v261 val_main_v260
  generalize val_main_v257 (F := Ideal) A.x A.wq A.w1 = v at hs
  pointwise [val_main_v259, val_main_v258]
  rw [hs]
  simp only [shifted_apply, pad_apply]
  rfl

/-- The activation. -/
theorem gelu_apply (b : Fin 4) (g : Fin 8) (c : Fin 96) (j : Fin 36) :
    val_main_v270 (F := Ideal) A.x A.wq A.w1 A.b1 (ix4 b g c j) = gelu ((A.group b g).conv j c) := by
  have hc := conv A b g c j
  unfold val_main_v270 val_main_v269 val_main_v267 val_main_v266 val_main_v263
  generalize val_main_v261 (F := Ideal) A.x A.wq A.w1 A.b1 = v at hc
  pointwise [val_main_v262, val_main_cst, val_main_v265, val_main_v264, val_main_cst_0, val_main_v268, val_main_cst_1]
  rw [hc, Consts.half, Consts.two, Ideal.sqrt_coe, if_neg (by norm_num), Ideal.div_coe (by positivity), one_div (Real.sqrt 2)]
  unfold gelu
  rw [mul_comm ((1 / 2 : ℝ) : EReal)]

/-- The offsets. -/
theorem off (b : Fin 4) (g : Fin 8) (a : Fin 2) (j : Fin 36) :
    val_main_v276 (F := Ideal) A.x A.wq A.w1 A.b1 A.w2 (ix4 b g a j) = (A.group b g).off a j := by
  have hg := gelu_apply A b g
  unfold val_main_v276 val_main_v274 val_main_v273 val_main_v272
  generalize val_main_v270 (F := Ideal) A.x A.wq A.w1 A.b1 = v at hg
  pointwise [val_main_v271, val_main_v275, val_main_cst_2]
  rw [Consts.four]
  simp only [hg]
  unfold Data.off
  congr 2
  exact Finset.sum_congr rfl fun c _ => mul_comm _ _

/-- The row coordinates of the sampling points. -/
theorem gy (b : Fin 4) (g : Fin 8) (j : Fin 36) :
    val_main_v293 (F := Ideal) A.x A.wq A.w1 A.b1 A.w2 (ix3 b g j) = (A.group b g).gy j := by
  have ho := off A b g
  unfold val_main_v293 val_main_v291 val_main_v289 val_main_v287 val_main_v284 val_main_v283
  generalize val_main_v276 (F := Ideal) A.x A.wq A.w1 A.b1 A.w2 = v at ho
  pointwise [val_main_v292, val_main_cst_5, val_main_v290, val_main_cst_4, val_main_v288, val_main_cst_3, val_main_v286,
    val_main_v285, val_main_v282, val_main_v281, val_main_v279, val_main_v277]
  rw [Consts.two, Consts.five, sitofp_nat _ (by omega), ho]
  rfl

/-- The column coordinates of the sampling points. -/
theorem gx (b : Fin 4) (g : Fin 8) (j : Fin 36) :
    val_main_v306 (F := Ideal) A.x A.wq A.w1 A.b1 A.w2 (ix3 b g j) = (A.group b g).gx j := by
  have ho := off A b g
  unfold val_main_v306 val_main_v304 val_main_v302 val_main_v300 val_main_v297 val_main_v296
  generalize val_main_v276 (F := Ideal) A.x A.wq A.w1 A.b1 A.w2 = v at ho
  pointwise [val_main_v305, val_main_cst_8, val_main_v303, val_main_cst_7, val_main_v301, val_main_cst_6, val_main_v299,
    val_main_v298, val_main_v295, val_main_v294, val_main_v280, val_main_v278]
  rw [Consts.two, Consts.five, sitofp_nat _ (by omega), ho]
  rfl

end Cert.ReferenceIdeal.Stage

end
-- ==== Proof.RGather.lean ====
/- One corner of the reference's bilinear sampling: the clipped pixel, the gather, and the factor for pixels outside. -/
module

public import proofs.«01_k».proof.Proof.Args
public import proofs.«01_k».proof.Proof.Algebra
public import proofs.«01_k».proof.Proof.Consts
public import proofs.«01_k».proof.Proof.Gen.ReferenceIdeal.Read
public import Idealize.ShloMosaic.Lib.ReduceAll

@[expose] public section

set_option maxRecDepth 16384

noncomputable section

namespace Cert.ReferenceIdeal.Stage

open Idealize.ShloMosaic Cert Cert.ReferenceIdeal Cert.ReferenceIdeal.Gen Cert.ReferenceIdeal.Read Cert.Spec Cert.Algebra

/-- The gather along the pixels, whose batch axes are the batch entry and the group: the image at the start index, read
    signed and clamped. -/
theorem gather_apply (x : FVec Ideal S4x8x96x576 .f32) (idx : IVec S4x8x36x1 32) (b : Fin 4) (g : Fin 8) (d : Fin 96)
    (j : Fin 36) :
    Host.gather gather_S4x8x96x576_S4x8x36x1_S4x8x96x36_2_3_01_01_3_3_11961 x idx (ix4 b g d j)
      = x (ix4 b g d ⟨min (idx (ix4 b g j 0)).toInt.toNat 575, by omega⟩) := by
  unfold Host.gather
  congr 1
  funext a
  refine Fin.ext ?_
  show GatherDims.start _ _ idx a + GatherDims.batchCoord _ _ a + GatherDims.offCoord _ _ a = _
  have h : a = (0 : Fin 4) ∨ a = (1 : Fin 4) ∨ a = (2 : Fin 4) ∨ a = (3 : Fin 4) := by
    match a with
    | ⟨0, _⟩ => exact .inl rfl
    | ⟨1, _⟩ => exact .inr (.inl rfl)
    | ⟨2, _⟩ => exact .inr (.inr (.inl rfl))
    | ⟨3, _⟩ => exact .inr (.inr (.inr rfl))
  rcases h with rfl | rfl | rfl | rfl
  · rw [GatherDims.start_batching _ _ _ _ (by decide), GatherDims.offCoord_eq_zero _ _ _ (by decide)]
    simp only [Nat.zero_add, Nat.add_zero]
    rfl
  · rw [GatherDims.start_batching _ _ _ _ (by decide), GatherDims.offCoord_eq_zero _ _ _ (by decide)]
    simp only [Nat.zero_add, Nat.add_zero]
    rfl
  · rw [GatherDims.batchCoord_eq_zero _ _ _ (by decide)]
    unfold GatherDims.start
    rw [dif_neg (by decide)]
    simp only [Nat.zero_add, Nat.add_zero]
    rfl
  · rw [GatherDims.batchCoord_eq_zero _ _ _ (by decide), GatherDims.offCoord_eq_zero _ _ _ (by decide)]
    simp only [Nat.add_zero]
    unfold GatherDims.start
    rw [dif_pos (by decide)]
    have hsi : GatherDims.siIdx gather_S4x8x96x576_S4x8x36x1_S4x8x96x36_2_3_01_01_3_3_11961 (ix4 b g d j)
        ⟨List.idxOf (3 : Fin 4) gather_S4x8x96x576_S4x8x36x1_S4x8x96x36_2_3_01_01_3_3_11961.startIndexMap,
          List.idxOf_lt_length_iff.2 (by decide)⟩ = ix4 b g j 0 := by
      funext b'; refine Fin.ext ?_
      match b' with
      | ⟨0, _⟩ => rfl
      | ⟨1, _⟩ => rfl
      | ⟨2, _⟩ => rfl
      | ⟨3, _⟩ => rfl
    exact congrArg (fun k => min (idx k).toInt.toNat 575) hsi

/-- Whether the column and the row lie in the image, as the reference computes it. -/
def inside (vx vy : FVec Ideal S4x8x36 .f32) : IVec S4x8x36 1 :=
  andi (andi (andi (cmpf .oge vx (broadcastInDim S4x8x36 ![] bcast_S_S4x8x36 (constant S_ .f32 0x00000000#32)))
    (cmpf .ole vx (broadcastInDim S4x8x36 ![] bcast_S_S4x8x36 (constant S_ .f32 0x41B80000#32))))
    (cmpf .oge vy (broadcastInDim S4x8x36 ![] bcast_S_S4x8x36 (constant S_ .f32 0x00000000#32))))
    (cmpf .ole vy (broadcastInDim S4x8x36 ![] bcast_S_S4x8x36 (constant S_ .f32 0x41B80000#32)))

/-- A coordinate clipped to the image, as the reference computes it. -/
def clipped (v : FVec Ideal S4x8x36 .f32) : FVec Ideal S4x8x36 .f32 :=
  minimumf (broadcastInDim S4x8x36 ![] bcast_S_S4x8x36 (sitofp .f32 (constantI S_ 32 23#32)))
    (maximumf (broadcastInDim S4x8x36 ![] bcast_S_S4x8x36 (sitofp .f32 (constantI S_ 32 0#32))) v)

/-- The flat pixel word, as the reference computes it. -/
def flat (vx vy : FVec Ideal S4x8x36 .f32) : IVec S4x8x36 32 :=
  addi (muli (fptosi 32 (clipped vy)) (broadcastInDim S4x8x36 ![] bcast_S_S4x8x36 (constantI S_ 32 24#32)))
    (fptosi 32 (clipped vx))

/-- The flat pixel words wrapped from below and laid out for the gather. -/
def words (i : IVec S4x8x1x36 32) : IVec S4x8x36x1 32 :=
  shapeCast S4x8x36x1
    (select (cmpi .slt i (broadcastInDim S4x8x1x36 ![] bcast_S_S4x8x1x36 (constantI S_ 32 0#32)))
      (addi i (broadcastInDim S4x8x1x36 ![] bcast_S_S4x8x1x36 (constantI S_ 32 576#32))) i)
    shapeCasts_S4x8x1x36_S4x8x36x1

/-- The bound check of each word. -/
def bounded (w : IVec S4x8x36x1 32) : IVec S4x8x36x1 1 :=
  andi (cmpi .sge w (broadcastInDim S4x8x36x1 ![] bcast_S_S4x8x36x1 (constantI S_ 32 0#32)))
    (cmpi .sle w (broadcastInDim S4x8x36x1 ![0, 1, 2, 3] bcast_S1x1x1x1_S4x8x36x1_0_1_2_3
      (broadcastInDim S1x1x1x1 ![3] bcast_S1_S1x1x1x1_3 (constantI S1 32 575#32))))

/-- The image at the words, with the reference's fill value where a word is out of bounds. -/
def taken (x : FVec Ideal S4x8x96x576 .f32) (i : IVec S4x8x1x36 32) : FVec Ideal S4x8x96x36 .f32 :=
  select (broadcastInDim S4x8x96x36 ![0, 1, 3] bcast_S4x8x36_S4x8x96x36_0_1_3
      (Host.reduce IntOp.andi (bounded (words i)) (constantI S_ 1 1#1) reducesTo_S4x8x36x1_S4x8x36_d3 h_S_))
    (Host.gather gather_S4x8x96x576_S4x8x36x1_S4x8x96x36_2_3_01_01_3_3_11961 x (words i))
    (broadcastInDim S4x8x96x36 ![] bcast_S_S4x8x96x36 (constant S_ .f32 0x7FC00000#32))

/-- One corner's term, as the reference computes it. -/
def cornerTerm (x : FVec Ideal S4x8x96x576 .f32) (vx vy w : FVec Ideal S4x8x36 .f32) : FVec Ideal S4x8x96x36 .f32 :=
  mulf (mulf (taken x (broadcastInDim S4x8x1x36 ![0, 1, 3] bcast_S4x8x36_S4x8x1x36_0_1_3 (flat vx vy)))
      (broadcastInDim S4x8x96x36 ![0, 1, 2, 3] bcast_S4x8x1x36_S4x8x96x36_0_1_2_3
        (uitofp .f32 (broadcastInDim S4x8x1x36 ![0, 1, 3] bcast_S4x8x36_S4x8x1x36_0_1_3 (inside vx vy)))))
    (broadcastInDim S4x8x96x36 ![0, 1, 2, 3] bcast_S4x8x1x36_S4x8x96x36_0_1_2_3
      (broadcastInDim S4x8x1x36 ![0, 1, 3] bcast_S4x8x36_S4x8x1x36_0_1_3 w))

/-- Where the coordinates are whole, the validity bit says whether they lie in the image. -/
theorem inside_apply (vx vy : FVec Ideal S4x8x36 .f32) (zx zy : ℤ) (i : S4x8x36.Idx)
    (hx : vx i = (((zx : ℤ) : ℝ) : EReal)) (hy : vy i = (((zy : ℤ) : ℝ) : EReal)) :
    inside vx vy i = if Ok zx zy then 1 else 0 := by
  pointwise [inside]
  rw [hx, hy, Consts.c23, valid_bit]

/-- A whole coordinate, clipped to the image and converted, is the nearest row's or column's word. -/
theorem coord_word (z : ℤ) :
    FloatOps.fptosi (F := Ideal) (φ := .f32) 32
        (min (FloatOps.sitofp (F := Ideal) FTy.f32 23#32) (max (FloatOps.sitofp (F := Ideal) FTy.f32 0#32) (((z : ℤ) : ℝ) : EReal)))
      = BitVec.ofNat 32 (cl z).val := by
  have a : FloatOps.sitofp (F := Ideal) FTy.f32 23#32 = ((23 : ℝ) : EReal) := by exact_mod_cast sitofp_nat 23 (by norm_num)
  have b : FloatOps.sitofp (F := Ideal) FTy.f32 0#32 = ((0 : ℝ) : EReal) := by exact_mod_cast sitofp_nat 0 (by norm_num)
  rw [a, b, clip_coe]
  exact fptosi_nat _ (by have := (cl z).isLt; omega)

/-- The word of a pixel is not negative, is in bounds, and reads back as the pixel. -/
theorem pixel_facts : ∀ p : Fin 576,
    IntOp.cmpi CmpIPredicate.slt (BitVec.ofNat 32 p.val) 0#32 = 0#1
      ∧ IntOp.andi (IntOp.cmpi CmpIPredicate.sge (BitVec.ofNat 32 p.val) 0#32)
          (IntOp.cmpi CmpIPredicate.sle (BitVec.ofNat 32 p.val) 575#32) = 1#1
      ∧ min (BitVec.ofNat 32 p.val).toInt.toNat 575 = p.val := by
  decide +kernel

/-- Where the coordinates are whole, the word is the clipped pixel's. -/
theorem flat_apply (vx vy : FVec Ideal S4x8x36 .f32) (zx zy : ℤ) (i : S4x8x36.Idx)
    (hx : vx i = (((zx : ℤ) : ℝ) : EReal)) (hy : vy i = (((zy : ℤ) : ℝ) : EReal)) :
    flat vx vy i = BitVec.ofNat 32 (pixel zx zy).val := by
  pointwise [flat, clipped]
  rw [hx, hy, coord_word, coord_word]
  show BitVec.ofNat 32 (cl zy).val * BitVec.ofNat 32 24 + BitVec.ofNat 32 (cl zx).val = _
  rw [← BitVec.ofNat_mul, ← BitVec.ofNat_add]
  rfl

/-- The words of pixels are these pixels'. -/
theorem words_apply (i : IVec S4x8x1x36 32) (p : Fin 576) (b : Fin 4) (g : Fin 8) (j : Fin 36)
    (hi : i (ix4 b g 0 j) = BitVec.ofNat 32 p.val) : words i (ix4 b g j 0) = BitVec.ofNat 32 p.val := by
  pointwise [words]
  rw [hi, (pixel_facts p).1]
  rfl

/-- The word of a pixel is in bounds. -/
theorem bounded_apply (w : IVec S4x8x36x1 32) (p : Fin 576) (i : S4x8x36x1.Idx) (hw : w i = BitVec.ofNat 32 p.val) :
    bounded w i = 1#1 := by
  pointwise [bounded]
  rw [hw]
  exact (pixel_facts p).2.1

/-- The image at the words of pixels. -/
theorem taken_apply (x : FVec Ideal S4x8x96x576 .f32) (i : IVec S4x8x1x36 32) (p : Fin 4 → Fin 8 → Fin 36 → Fin 576)
    (hi : ∀ b g j, i (ix4 b g 0 j) = BitVec.ofNat 32 (p b g j).val) (b : Fin 4) (g : Fin 8) (d : Fin 96) (j : Fin 36) :
    taken x i (ix4 b g d j) = x (ix4 b g d (p b g j)) := by
  have hw := fun b g j => words_apply i (p b g j) b g j (hi b g j)
  have hr : Host.reduce IntOp.andi (bounded (words i)) (constantI S_ 1 1#1) reducesTo_S4x8x36x1_S4x8x36_d3 h_S_
      (ix3 b g j) = 1#1 := by
    refine Host.reduce_andi_one _ _ _ _ _ rfl fun y => ?_
    obtain ⟨b, g, j, rfl⟩ : ∃ b g j, y = ix4 b g j 0 :=
      ⟨y 0, y 1, y 2, (eq_ix4 y).trans (by congr 1; exact Subsingleton.elim (α := Fin 1) _ _)⟩
    exact bounded_apply _ _ _ (hw b g j)
  have hg := gather_apply x (words i) b g d j
  unfold taken
  generalize Host.reduce IntOp.andi (bounded (words i)) (constantI S_ 1 1#1) reducesTo_S4x8x36x1_S4x8x36_d3 h_S_ = r at hr
  generalize Host.gather gather_S4x8x96x576_S4x8x36x1_S4x8x96x36_2_3_01_01_3_3_11961 x (words i) = y at hg
  pointwise []
  rw [hr, hg]
  refine congrArg (fun k => x (ix4 b g d k)) (Fin.ext ?_)
  show min (words i (ix4 b g j 0)).toInt.toNat 575 = (p b g j).val
  rw [hw]
  exact (pixel_facts (p b g j)).2.2

/-- The corner's term is the specification's. -/
theorem corner_apply (x : FVec Ideal S4x8x96x576 .f32) (vx vy w : FVec Ideal S4x8x36 .f32)
    (zx zy : Fin 4 → Fin 8 → Fin 36 → ℤ) (u : Fin 4 → Fin 8 → Fin 36 → ℝ)
    (hx : ∀ b g j, vx (ix3 b g j) = (((zx b g j : ℤ) : ℝ) : EReal))
    (hy : ∀ b g j, vy (ix3 b g j) = (((zy b g j : ℤ) : ℝ) : EReal))
    (hu : ∀ b g j, w (ix3 b g j) = ((u b g j : ℝ) : EReal)) (b : Fin 4) (g : Fin 8) (d : Fin 96) (j : Fin 36) :
    cornerTerm x vx vy w (ix4 b g d j)
      = corner (fun n => x (ix4 b g d n)) (zx b g j) (zy b g j) (u b g j) := by
  have hf := fun b g j => flat_apply vx vy (zx b g j) (zy b g j) (ix3 b g j) (hx b g j) (hy b g j)
  have hv := inside_apply vx vy (zx b g j) (zy b g j) (ix3 b g j) (hx b g j) (hy b g j)
  have ht := taken_apply x (broadcastInDim S4x8x1x36 ![0, 1, 3] bcast_S4x8x36_S4x8x1x36_0_1_3 (flat vx vy))
    (fun b g j => pixel (zx b g j) (zy b g j)) (fun b g j => by rw [← hf]; pointwise []) b g d j
  unfold cornerTerm
  generalize taken x _ = t at ht
  generalize inside vx vy = v at hv
  pointwise []
  rw [ht, hv, hu]
  unfold corner
  split_ifs <;> simp [FloatOps.uitofp]

end Cert.ReferenceIdeal.Stage

end
-- ==== Proof.RGrid.lean ====
/- The reference's sampling: pixel coordinates, the four corners, the sampled image. -/
module

public import proofs.«01_k».proof.Proof.RConv
public import proofs.«01_k».proof.Proof.RGather

@[expose] public section

set_option maxRecDepth 16384

noncomputable section

namespace Cert.ReferenceIdeal.Stage

open Idealize.ShloMosaic Cert Cert.ReferenceIdeal Cert.ReferenceIdeal.Gen Cert.ReferenceIdeal.Read Cert.Spec Cert.Algebra

variable (A : Args) (b : Fin 4) (g : Fin 8) (j : Fin 36)

/-- The pixel columns. -/
theorem col : val_main_v314 (F := Ideal) A.x A.wq A.w1 A.b1 A.w2 (ix3 b g j) = ((px (A.group b g) j : ℝ) : EReal) := by
  have h := gx A b g j
  unfold val_main_v314 val_main_v312 val_main_v310 val_main_v308
  generalize val_main_v306 (F := Ideal) A.x A.wq A.w1 A.b1 A.w2 = v at h
  pointwise [val_main_v313, val_main_cst_12, val_main_v311, val_main_cst_11, val_main_v309, val_main_cst_10, val_main_v307,
    val_main_cst_9]
  rw [h, Consts.c24, Consts.two, Ideal.div_coe (by norm_num)]
  exact px_real (A.group b g) j

/-- The pixel rows. -/
theorem row : val_main_v322 (F := Ideal) A.x A.wq A.w1 A.b1 A.w2 (ix3 b g j) = ((py (A.group b g) j : ℝ) : EReal) := by
  have h := gy A b g j
  unfold val_main_v322 val_main_v320 val_main_v318 val_main_v316
  generalize val_main_v293 (F := Ideal) A.x A.wq A.w1 A.b1 A.w2 = v at h
  pointwise [val_main_v321, val_main_cst_16, val_main_v319, val_main_cst_15, val_main_v317, val_main_cst_14, val_main_v315,
    val_main_cst_13]
  rw [h, Consts.c24, Consts.two, Ideal.div_coe (by norm_num)]
  exact py_real (A.group b g) j

/-- The left columns. -/
theorem x0 : val_main_v323 (F := Ideal) A.x A.wq A.w1 A.b1 A.w2 (ix3 b g j)
    = (((⌊px (A.group b g) j⌋ : ℤ) : ℝ) : EReal) := by
  have h := col A b g j
  unfold val_main_v323
  generalize val_main_v314 (F := Ideal) A.x A.wq A.w1 A.b1 A.w2 = v at h
  pointwise []
  rw [h]; rfl

/-- The upper rows. -/
theorem y0 : val_main_v324 (F := Ideal) A.x A.wq A.w1 A.b1 A.w2 (ix3 b g j)
    = (((⌊py (A.group b g) j⌋ : ℤ) : ℝ) : EReal) := by
  have h := row A b g j
  unfold val_main_v324
  generalize val_main_v322 (F := Ideal) A.x A.wq A.w1 A.b1 A.w2 = v at h
  pointwise []
  rw [h]; rfl

/-- The right columns. -/
theorem x1 : val_main_v326 (F := Ideal) A.x A.wq A.w1 A.b1 A.w2 (ix3 b g j)
    = (((⌊px (A.group b g) j⌋ + 1 : ℤ) : ℝ) : EReal) := by
  have h := x0 A b g j
  unfold val_main_v326
  generalize val_main_v323 (F := Ideal) A.x A.wq A.w1 A.b1 A.w2 = v at h
  pointwise [val_main_v325, val_main_cst_17]
  rw [h, succ_coe]

/-- The lower rows. -/
theorem y1 : val_main_v328 (F := Ideal) A.x A.wq A.w1 A.b1 A.w2 (ix3 b g j)
    = (((⌊py (A.group b g) j⌋ + 1 : ℤ) : ℝ) : EReal) := by
  have h := y0 A b g j
  unfold val_main_v328
  generalize val_main_v324 (F := Ideal) A.x A.wq A.w1 A.b1 A.w2 = v at h
  pointwise [val_main_v327, val_main_cst_18]
  rw [h, succ_coe]

/-- The weight of the right columns. -/
theorem wx1 : val_main_v329 (F := Ideal) A.x A.wq A.w1 A.b1 A.w2 (ix3 b g j)
    = ((px (A.group b g) j - ⌊px (A.group b g) j⌋ : ℝ) : EReal) := by
  rw [EReal.coe_sub, ← col, ← x0]; rfl

/-- The weight of the left columns. -/
theorem wx0 : val_main_v331 (F := Ideal) A.x A.wq A.w1 A.b1 A.w2 (ix3 b g j)
    = ((1 - (px (A.group b g) j - ⌊px (A.group b g) j⌋) : ℝ) : EReal) := by
  have h := wx1 A b g j
  unfold val_main_v331
  generalize val_main_v329 (F := Ideal) A.x A.wq A.w1 A.b1 A.w2 = v at h
  pointwise [val_main_v330, val_main_cst_19]
  rw [h, EReal.coe_sub 1, EReal.coe_one]

/-- The weight of the lower rows. -/
theorem wy1 : val_main_v332 (F := Ideal) A.x A.wq A.w1 A.b1 A.w2 (ix3 b g j)
    = ((py (A.group b g) j - ⌊py (A.group b g) j⌋ : ℝ) : EReal) := by
  rw [EReal.coe_sub, ← row, ← y0]; rfl

/-- The weight of the upper rows. -/
theorem wy0 : val_main_v334 (F := Ideal) A.x A.wq A.w1 A.b1 A.w2 (ix3 b g j)
    = ((1 - (py (A.group b g) j - ⌊py (A.group b g) j⌋) : ℝ) : EReal) := by
  have h := wy1 A b g j
  unfold val_main_v334
  generalize val_main_v332 (F := Ideal) A.x A.wq A.w1 A.b1 A.w2 = v at h
  pointwise [val_main_v333, val_main_cst_20]
  rw [h, EReal.coe_sub 1, EReal.coe_one]

/-- The image as the reference lays it out. -/
theorem image (d : Fin 96) (n : Fin 576) : val_main_v0 (F := Ideal) A.x (ix4 b g d n) = (A.group b g).x d n := by
  pointwise [val_main_v0]
  rfl

/-- The sampled image is the sum of the four corners' terms. -/
theorem sum_corners (y : S4x8x96x36.Idx) :
    val_main_v449 (F := Ideal) A.x A.wq A.w1 A.b1 A.w2 y
      = cornerTerm (val_main_v0 (F := Ideal) A.x) (val_main_v323 (F := Ideal) A.x A.wq A.w1 A.b1 A.w2)
            (val_main_v324 (F := Ideal) A.x A.wq A.w1 A.b1 A.w2) (val_main_v359 (F := Ideal) A.x A.wq A.w1 A.b1 A.w2) y
          + cornerTerm (val_main_v0 (F := Ideal) A.x) (val_main_v326 (F := Ideal) A.x A.wq A.w1 A.b1 A.w2)
            (val_main_v324 (F := Ideal) A.x A.wq A.w1 A.b1 A.w2) (val_main_v387 (F := Ideal) A.x A.wq A.w1 A.b1 A.w2) y
          + cornerTerm (val_main_v0 (F := Ideal) A.x) (val_main_v323 (F := Ideal) A.x A.wq A.w1 A.b1 A.w2)
            (val_main_v328 (F := Ideal) A.x A.wq A.w1 A.b1 A.w2) (val_main_v416 (F := Ideal) A.x A.wq A.w1 A.b1 A.w2) y
          + cornerTerm (val_main_v0 (F := Ideal) A.x) (val_main_v326 (F := Ideal) A.x A.wq A.w1 A.b1 A.w2)
            (val_main_v328 (F := Ideal) A.x A.wq A.w1 A.b1 A.w2) (val_main_v445 (F := Ideal) A.x A.wq A.w1 A.b1 A.w2) y :=
  rfl

/-- The sampled image. -/
theorem kv (d : Fin 96) :
    val_main_v449 (F := Ideal) A.x A.wq A.w1 A.b1 A.w2 (ix4 b g d j) = (A.group b g).kv d j := by
  rw [sum_corners]
  rw [corner_apply _ _ _ _ _ _ (fun b g j => (1 - (px (A.group b g) j - ⌊px (A.group b g) j⌋)) * (1 - (py (A.group b g) j - ⌊py (A.group b g) j⌋)))
      (x0 A) (y0 A) (fun b g j => by rw [EReal.coe_mul, ← wx0, ← wy0]; rfl),
    corner_apply _ _ _ _ _ _ (fun b g j => (px (A.group b g) j - ⌊px (A.group b g) j⌋) * (1 - (py (A.group b g) j - ⌊py (A.group b g) j⌋)))
      (x1 A) (y0 A) (fun b g j => by rw [EReal.coe_mul, ← wx1, ← wy0]; rfl),
    corner_apply _ _ _ _ _ _ (fun b g j => (1 - (px (A.group b g) j - ⌊px (A.group b g) j⌋)) * (py (A.group b g) j - ⌊py (A.group b g) j⌋))
      (x0 A) (y1 A) (fun b g j => by rw [EReal.coe_mul, ← wx0, ← wy1]; rfl),
    corner_apply _ _ _ _ _ _ (fun b g j => (px (A.group b g) j - ⌊px (A.group b g) j⌋) * (py (A.group b g) j - ⌊py (A.group b g) j⌋))
      (x1 A) (y1 A) (fun b g j => by rw [EReal.coe_mul, ← wx1, ← wy1]; rfl)]
  simp only [image]
  rfl

end Cert.ReferenceIdeal.Stage

end
-- ==== Proof.RAttn.lean ====
/- The reference's attention: keys, values, logits, position bias, softmax. -/
module

public import proofs.«01_k».proof.Proof.RGrid

@[expose] public section

set_option maxRecDepth 16384

noncomputable section

namespace Cert.ReferenceIdeal.Stage

open Idealize.ShloMosaic Cert Cert.ReferenceIdeal Cert.ReferenceIdeal.Gen Cert.ReferenceIdeal.Read Cert.Spec Cert.Algebra

variable (A : Args) (b : Fin 4) (g : Fin 8)

/-- The keys, without the attention scale. -/
theorem key (c : Fin 96) (j : Fin 36) :
    val_main_v453 (F := Ideal) A.x A.wq A.wk A.w1 A.b1 A.w2 (ix4 b g c j)
      = ∑ e : Fin 96, (A.group b g).kv e j * A.wk (ix4 (ch g c) e 0 0) := by
  have h := fun e => kv A b g j e
  unfold val_main_v453 val_main_v452
  generalize val_main_v449 (F := Ideal) A.x A.wq A.w1 A.b1 A.w2 = v at h
  pointwise [val_main_v451, val_main_v450]
  simp only [h]
  rfl

/-- The values. -/
theorem value (c : Fin 96) (j : Fin 36) :
    val_main_v457 (F := Ideal) A.x A.wq A.wv A.w1 A.b1 A.w2 (ix4 b g c j) = (A.group b g).vb c j := by
  have h := fun e => kv A b g j e
  unfold val_main_v457 val_main_v456
  generalize val_main_v449 (F := Ideal) A.x A.wq A.w1 A.b1 A.w2 = v at h
  pointwise [val_main_v455, val_main_v454]
  simp only [h]
  exact Finset.sum_congr rfl fun e _ => mul_comm _ _

/-- The keys with the attention scale, from those without. -/
theorem scaled (c : Fin 96) (j : Fin 36) :
    Ideal.ofBits .f32 0x3DD105EC#32 * (∑ e : Fin 96, (A.group b g).kv e j * A.wk (ix4 (ch g c) e 0 0))
      = (A.group b g).kb c j := by
  obtain ⟨r, hr, hs⟩ := Consts.scale
  rw [hs, mul_sum _ _ hr.le]
  refine Finset.sum_congr rfl fun e _ => ?_
  show _ = A.wk (ix4 (ch g c) e 0 0) * Ideal.ofBits .f32 0x3DD105EC#32 * (A.group b g).kv e j
  rw [hs, mul_comm ((A.group b g).kv e j), ← mul_assoc, mul_comm (A.wk (ix4 (ch g c) e 0 0))]

/-- The products of queries and keys. -/
theorem dots (n : Fin 576) (j : Fin 36) :
    val_main_v460 (F := Ideal) A.x A.wq A.wk A.w1 A.b1 A.w2 (ix4 b g n j)
      = ∑ d : Fin 96, (A.group b g).q n d * (A.group b g).kb d j := by
  have hk := fun c => key A b g c j
  have hq := fun c => q A b g c n
  unfold val_main_v460 val_main_v459
  generalize val_main_v453 (F := Ideal) A.x A.wq A.wk A.w1 A.b1 A.w2 = k at hk
  generalize val_main_v4 (F := Ideal) A.x A.wq = v at hq
  pointwise [val_main_v458, val_main_cst_57]
  simp only [hk, hq, mul_assoc, scaled]

/-- The column of the query grid. -/
theorem qx (n : Fin 576) : val_main_v480 (F := Ideal) (ix1 n) = qgrid (n.val % 24) := by
  pointwise [val_main_v480, val_main_v479, val_main_cst_63, val_main_v478, val_main_v477, val_main_cst_62, val_main_v476,
    val_main_v475, val_main_cst_61, val_main_v474, val_main_v473, val_main_v464, val_main_v462]
  rw [Consts.two, Consts.c23, sitofp_nat _ (by omega)]
  rfl

/-- The row of the query grid. -/
theorem qy (n : Fin 576) : val_main_v472 (F := Ideal) (ix1 n) = qgrid (n.val / 24) := by
  pointwise [val_main_v472, val_main_v471, val_main_cst_60, val_main_v470, val_main_v469, val_main_cst_59, val_main_v468,
    val_main_v467, val_main_cst_58, val_main_v466, val_main_v465, val_main_v463, val_main_v461]
  rw [Consts.two, Consts.c23, sitofp_nat _ (by omega)]
  rfl

/-- The relative columns. -/
theorem dx (n : Fin 576) (j : Fin 36) :
    val_main_v486 (F := Ideal) A.x A.wq A.w1 A.b1 A.w2 (ix4 b g n j) = qgrid (n.val % 24) - (A.group b g).gx j := by
  have h := gx A b g j
  have hq := qx n
  unfold val_main_v486 val_main_v485 val_main_v484 val_main_v483 val_main_v482 val_main_v481
  generalize val_main_v306 (F := Ideal) A.x A.wq A.w1 A.b1 A.w2 = v at h
  generalize val_main_v480 (F := Ideal) = w at hq
  pointwise []
  rw [h, hq]

/-- The relative rows. -/
theorem dy (n : Fin 576) (j : Fin 36) :
    val_main_v492 (F := Ideal) A.x A.wq A.w1 A.b1 A.w2 (ix4 b g n j) = qgrid (n.val / 24) - (A.group b g).gy j := by
  have h := gy A b g j
  have hq := qy n
  unfold val_main_v492 val_main_v491 val_main_v490 val_main_v489 val_main_v488 val_main_v487
  generalize val_main_v293 (F := Ideal) A.x A.wq A.w1 A.b1 A.w2 = v at h
  generalize val_main_v472 (F := Ideal) = w at hq
  pointwise []
  rw [h, hq]

/-- The relative positions in signed logarithm, columns first. -/
theorem slogs (n : Fin 576) (j : Fin 36) :
    val_main_v501 (F := Ideal) A.x A.wq A.w1 A.b1 A.w2 (ix5 b g n j 0) = (A.group b g).fx n j
      ∧ val_main_v501 (F := Ideal) A.x A.wq A.w1 A.b1 A.w2 (ix5 b g n j 1) = (A.group b g).fy n j := by
  have hx := dx A b g n j
  have hy := dy A b g n j
  unfold val_main_v501 val_main_v500 val_main_v499 val_main_v497 val_main_v496 val_main_v495 val_main_v494 val_main_v493
  generalize val_main_v486 (F := Ideal) A.x A.wq A.w1 A.b1 A.w2 = v at hx
  generalize val_main_v492 (F := Ideal) A.x A.wq A.w1 A.b1 A.w2 = w at hy
  constructor
  · pointwise [val_main_v498, val_main_cst_64]
    rw [hx]
    rfl
  · pointwise [val_main_v498, val_main_cst_64]
    rw [hy]
    rfl

/-- The first layer of the position network. -/
theorem layer1 (n : Fin 576) (j : Fin 36) (e : Fin 192) :
    val_main_v507 (F := Ideal) A.x A.wq A.w1 A.b1 A.w2 A.c1 A.d1 (ix5 b g n j e)
      = (A.group b g).h1 ((A.group b g).fx n j) ((A.group b g).fy n j) e := by
  have h0 := (slogs A b g n j).1
  have h1 := (slogs A b g n j).2
  unfold val_main_v507 val_main_v506 val_main_v503
  generalize val_main_v501 (F := Ideal) A.x A.wq A.w1 A.b1 A.w2 = v at h0 h1
  pointwise [val_main_call13_v0, val_main_call13_cst, val_main_v505, val_main_v504, val_main_v502]
  rw [Fin.sum_univ_two, h0, h1, add_assoc]
  rfl

/-- The second layer of the position network. -/
theorem layer2 (n : Fin 576) (j : Fin 36) (e : Fin 192) :
    val_main_v513 (F := Ideal) A.x A.wq A.w1 A.b1 A.w2 A.c1 A.d1 A.c2 A.d2 (ix5 b g n j e)
      = (A.group b g).h2 ((A.group b g).fx n j) ((A.group b g).fy n j) e := by
  have h := layer1 A b g n j
  unfold val_main_v513 val_main_v512 val_main_v509
  generalize val_main_v507 (F := Ideal) A.x A.wq A.w1 A.b1 A.w2 A.c1 A.d1 = v at h
  pointwise [val_main_call14_v0, val_main_call14_cst, val_main_v511, val_main_v510, val_main_v508]
  simp only [h]
  rfl

/-- The position bias. -/
theorem posbias (n : Fin 576) (j : Fin 36) :
    val_main_v519 (F := Ideal) A.x A.wq A.w1 A.b1 A.w2 A.c1 A.d1 A.c2 A.d2 A.c3 A.d3 (ix4 b g n j)
      = (A.group b g).bias n j + (A.group b g).d3 := by
  have h := layer2 A b g n j
  unfold val_main_v519 val_main_v518 val_main_v515
  generalize val_main_v513 (F := Ideal) A.x A.wq A.w1 A.b1 A.w2 A.c1 A.d1 A.c2 A.d2 = v at h
  pointwise [val_main_v517, val_main_v516, val_main_v514]
  simp only [h]
  rfl

/-- The logits. -/
theorem logits (n : Fin 576) (j : Fin 36) :
    val_main_v520 (F := Ideal) A.x A.wq A.wk A.w1 A.b1 A.w2 A.c1 A.d1 A.c2 A.d2 A.c3 A.d3 (ix4 b g n j)
      = (A.group b g).sim n j := by
  show val_main_v460 (F := Ideal) A.x A.wq A.wk A.w1 A.b1 A.w2 (ix4 b g n j)
      + val_main_v519 (F := Ideal) A.x A.wq A.w1 A.b1 A.w2 A.c1 A.d1 A.c2 A.d2 A.c3 A.d3 (ix4 b g n j) = _
  rw [dots, posbias]
  rfl

/-- The logits less the greatest of their pixel. -/
theorem lowered (n : Fin 576) (j : Fin 36) :
    val_main_v524 (F := Ideal) A.x A.wq A.wk A.w1 A.b1 A.w2 A.c1 A.d1 A.c2 A.d2 A.c3 A.d3 (ix4 b g n j)
      = (A.group b g).sim n j - (A.group b g).top n := by
  have h := logits A b g n
  unfold val_main_v524 val_main_v523 val_main_v522 val_main_v521
  generalize val_main_v520 (F := Ideal) A.x A.wq A.wk A.w1 A.b1 A.w2 A.c1 A.d1 A.c2 A.d2 A.c3 A.d3 = v at h
  pointwise [val_main_cst_65]
  simp only [h, Consts.negInf]
  rfl

/-- Taking the greatest away again changes nothing. -/
theorem lowered_again (n : Fin 576) (j : Fin 36) :
    val_main_v530 (F := Ideal) A.x A.wq A.wk A.w1 A.b1 A.w2 A.c1 A.d1 A.c2 A.d2 A.c3 A.d3 (ix4 b g n j)
      = (A.group b g).sim n j - (A.group b g).top n := by
  have h := lowered A b g n
  unfold val_main_v530 val_main_v529 val_main_v528 val_main_v527 val_main_v525
  generalize val_main_v524 (F := Ideal) A.x A.wq A.wk A.w1 A.b1 A.w2 A.c1 A.d1 A.c2 A.d2 A.c3 A.d3 = v at h
  pointwise [val_main_cst_66, val_main_v526, val_main_cst_67]
  simp only [h, Consts.negInf]
  exact sub_top_twice ((A.group b g).sim n) j

/-- The attention weights. -/
theorem attn (n : Fin 576) (j : Fin 36) :
    val_main_v535 (F := Ideal) A.x A.wq A.wk A.w1 A.b1 A.w2 A.c1 A.d1 A.c2 A.d2 A.c3 A.d3 (ix4 b g n j)
      = (A.group b g).attn n j := by
  have h := lowered_again A b g n
  unfold val_main_v535 val_main_v534 val_main_v533 val_main_v532 val_main_v531
  generalize val_main_v530 (F := Ideal) A.x A.wq A.wk A.w1 A.b1 A.w2 A.c1 A.d1 A.c2 A.d2 A.c3 A.d3 = v at h
  pointwise [val_main_cst_68]
  simp only [h]
  rfl

/-- The attention output. -/
theorem out (d : Fin 96) (n : Fin 576) :
    val_main_v536 (F := Ideal) A.x A.wq A.wk A.wv A.w1 A.b1 A.w2 A.c1 A.d1 A.c2 A.d2 A.c3 A.d3 (ix4 b g d n)
      = (A.group b g).out d n := by
  have ha := attn A b g n
  have hv := value A b g d
  unfold val_main_v536
  generalize val_main_v535 (F := Ideal) A.x A.wq A.wk A.w1 A.b1 A.w2 A.c1 A.d1 A.c2 A.d2 A.c3 A.d3 = a at ha
  generalize val_main_v457 (F := Ideal) A.x A.wq A.wv A.w1 A.b1 A.w2 = v at hv
  pointwise []
  simp only [ha, hv]
  rfl

end Cert.ReferenceIdeal.Stage

end
-- ==== Proof.ROut.lean ====
/- The reference's result: the output projection of the groups' attention outputs. -/
module

public import proofs.«01_k».proof.Proof.RAttn

@[expose] public section

set_option maxRecDepth 16384

noncomputable section

namespace Cert.ReferenceIdeal.Stage

open Idealize.ShloMosaic Cert Cert.ReferenceIdeal Cert.ReferenceIdeal.Gen Cert.ReferenceIdeal.Read Cert.Spec Cert.Algebra

variable (A : Args) (b : Fin 4)

/-- A sum over all channels, group by group. -/
theorem sum_groups (f : Fin 768 → EReal) : ∑ k : Fin 768, f k = ∑ g : Fin 8, ∑ d : Fin 96, f (ch g d) := by
  rw [← Finset.sum_product', Finset.univ_product_univ]
  refine (Fintype.sum_equiv (finProdFinEquiv (m := 8) (n := 96)) _ _ fun y => ?_).symm
  congr 1
  refine Fin.ext ?_
  show y.1.val * 96 + y.2.val = y.2.val + 96 * y.1.val
  omega

/-- The groups' attention outputs in one array of channels. -/
theorem merged (g : Fin 8) (d : Fin 96) (n : Fin 576) :
    val_main_v537 (F := Ideal) A.x A.wq A.wk A.wv A.w1 A.b1 A.w2 A.c1 A.d1 A.c2 A.d2 A.c3 A.d3 (ix3 b (ch g d) n)
      = (A.group b g).out d n := by
  have h := out A b
  unfold val_main_v537
  generalize val_main_v536 (F := Ideal) A.x A.wq A.wk A.wv A.w1 A.b1 A.w2 A.c1 A.d1 A.c2 A.d2 A.c3 A.d3 = v at h
  pointwise [ch]
  rw [← h]

/-- The reference's result. -/
theorem result (o : Fin 768) (n : Fin 576) :
    val_main_v543 (F := Ideal) A.x A.wq A.wk A.wv A.w1 A.b1 A.w2 A.c1 A.d1 A.c2 A.d2 A.c3 A.d3 A.wo A.bo (ix3 b o n)
      = A.result b o n := by
  have h := fun g d => merged A b g d n
  unfold val_main_v543 val_main_v540 val_main_v539
  generalize val_main_v537 (F := Ideal) A.x A.wq A.wk A.wv A.w1 A.b1 A.w2 A.c1 A.d1 A.c2 A.d2 A.c3 A.d3 = v at h
  pointwise [val_main_v542, val_main_v541, val_main_v538]
  rw [sum_groups]
  simp only [h]
  refine congrArg (· + A.bo (ix1 o)) (Finset.sum_congr rfl fun g _ => Finset.sum_congr rfl fun d _ => mul_comm _ _)

end Cert.ReferenceIdeal.Stage

end
-- ==== Proof.Claims.lean ====
/- The five claims. -/
module

public import proofs.«01_k».proof.Defs
public import proofs.«01_k».proof.Proof.KEntry
public import proofs.«01_k».proof.Proof.ROut
public import proofs.«01_k».proof.Proof.Gen.Kernel.Frame
public import proofs.«01_k».proof.Proof.Gen.KernelIdeal.Frame
public import proofs.«01_k».proof.Proof.Gen.KernelIdeal.Value
public import proofs.«01_k».proof.Proof.Gen.ReferenceIdeal.Run
public import Idealize.ShloMosaic.Lib.Quiescent

@[expose] public section

set_option maxRecDepth 16384

noncomputable section

namespace Cert.Claims

open Idealize.ShloMosaic Idealize.ShloMosaic.StableHlo Idealize.SL.Sem Cert.Spec

/-- The reference's argument arrays. -/
def args (m : (ℓ : Loc Cert.ReferenceIdeal.nD Cert.ReferenceIdeal.τ Cert.ReferenceIdeal.sig) → Buf (Elt Ideal) ℓ)
    (c : Dev Cert.ReferenceIdeal.nD) : Args where
  x := m ((c.tc : Thread Cert.ReferenceIdeal.nD Cert.ReferenceIdeal.τ).loc Cert.ReferenceIdeal.main_arg0)
  wq := m ((c.tc : Thread Cert.ReferenceIdeal.nD Cert.ReferenceIdeal.τ).loc Cert.ReferenceIdeal.main_arg1)
  wk := m ((c.tc : Thread Cert.ReferenceIdeal.nD Cert.ReferenceIdeal.τ).loc Cert.ReferenceIdeal.main_arg2)
  wv := m ((c.tc : Thread Cert.ReferenceIdeal.nD Cert.ReferenceIdeal.τ).loc Cert.ReferenceIdeal.main_arg3)
  w1 := m ((c.tc : Thread Cert.ReferenceIdeal.nD Cert.ReferenceIdeal.τ).loc Cert.ReferenceIdeal.main_arg4)
  b1 := m ((c.tc : Thread Cert.ReferenceIdeal.nD Cert.ReferenceIdeal.τ).loc Cert.ReferenceIdeal.main_arg5)
  w2 := m ((c.tc : Thread Cert.ReferenceIdeal.nD Cert.ReferenceIdeal.τ).loc Cert.ReferenceIdeal.main_arg6)
  c1 := m ((c.tc : Thread Cert.ReferenceIdeal.nD Cert.ReferenceIdeal.τ).loc Cert.ReferenceIdeal.main_arg7)
  d1 := m ((c.tc : Thread Cert.ReferenceIdeal.nD Cert.ReferenceIdeal.τ).loc Cert.ReferenceIdeal.main_arg8)
  c2 := m ((c.tc : Thread Cert.ReferenceIdeal.nD Cert.ReferenceIdeal.τ).loc Cert.ReferenceIdeal.main_arg9)
  d2 := m ((c.tc : Thread Cert.ReferenceIdeal.nD Cert.ReferenceIdeal.τ).loc Cert.ReferenceIdeal.main_arg10)
  c3 := m ((c.tc : Thread Cert.ReferenceIdeal.nD Cert.ReferenceIdeal.τ).loc Cert.ReferenceIdeal.main_arg11)
  d3 := m ((c.tc : Thread Cert.ReferenceIdeal.nD Cert.ReferenceIdeal.τ).loc Cert.ReferenceIdeal.main_arg12)
  wo := m ((c.tc : Thread Cert.ReferenceIdeal.nD Cert.ReferenceIdeal.τ).loc Cert.ReferenceIdeal.main_arg13)
  bo := m ((c.tc : Thread Cert.ReferenceIdeal.nD Cert.ReferenceIdeal.τ).loc Cert.ReferenceIdeal.main_arg14)

/-- The reference's last stage, as an array. -/
theorem reference_array (A : Args) :
    Cert.ReferenceIdeal.Read.val_main_v543 (F := Ideal) A.x A.wq A.wk A.wv A.w1 A.b1 A.w2 A.c1 A.d1 A.c2 A.d2 A.c3 A.d3
        A.wo A.bo
      = fun i => A.result (i 0) (i 1) (i 2) := by
  funext i
  refine (congrArg _ (eq_ix3 (i : Cert.ReferenceIdeal.S4x768x576.Idx))).trans ?_
  exact Cert.ReferenceIdeal.Stage.result A (i 0) (i 1) (i 2)

/-- The reference runs, leaves its arguments as they are, and ends with every counter at zero. -/
theorem frame_reference : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- The kernel and its idealization are related by the two rules that were used. -/
theorem preserves : Cert.preserves_Kernel_KernelIdeal :=
  ⟨IdealRules.named_const.statement Cert.KernelIdeal.κ "inv_sqrt_two" .f32 0x3F3504F3#32 (((Real.sqrt 2)⁻¹ : ℝ) : EReal) rfl,
    IdealRules.sign_bit.statement _ _, IdealRules.sign_bit.statement _ _⟩

/-- The reference's result array is the result of its arguments. -/
theorem reference_result
    (m : (ℓ : Loc Cert.ReferenceIdeal.nD Cert.ReferenceIdeal.τ Cert.ReferenceIdeal.sig) → Buf (Elt Ideal) ℓ)
    (c : Dev Cert.ReferenceIdeal.nD) :
    Cert.ReferenceIdeal.Read.val_main_v543 (F := Ideal)
        (launchContents m c (Proc.devRef .tc Cert.ReferenceIdeal.main_arg0))
        (launchContents m c (Proc.devRef .tc Cert.ReferenceIdeal.main_arg1))
        (launchContents m c (Proc.devRef .tc Cert.ReferenceIdeal.main_arg2))
        (launchContents m c (Proc.devRef .tc Cert.ReferenceIdeal.main_arg3))
        (launchContents m c (Proc.devRef .tc Cert.ReferenceIdeal.main_arg4))
        (launchContents m c (Proc.devRef .tc Cert.ReferenceIdeal.main_arg5))
        (launchContents m c (Proc.devRef .tc Cert.ReferenceIdeal.main_arg6))
        (launchContents m c (Proc.devRef .tc Cert.ReferenceIdeal.main_arg7))
        (launchContents m c (Proc.devRef .tc Cert.ReferenceIdeal.main_arg8))
        (launchContents m c (Proc.devRef .tc Cert.ReferenceIdeal.main_arg9))
        (launchContents m c (Proc.devRef .tc Cert.ReferenceIdeal.main_arg10))
        (launchContents m c (Proc.devRef .tc Cert.ReferenceIdeal.main_arg11))
        (launchContents m c (Proc.devRef .tc Cert.ReferenceIdeal.main_arg12))
        (launchContents m c (Proc.devRef .tc Cert.ReferenceIdeal.main_arg13))
        (launchContents m c (Proc.devRef .tc Cert.ReferenceIdeal.main_arg14))
      = fun i => (args m c).result (i 0) (i 1) (i 2) :=
  reference_array (args m c)

/-- The idealized kernel and the reference compute the same array. -/
theorem algebraic : Cert.algebraic_KernelIdeal_ReferenceIdeal := by
  intro m ρ m' ρ' _ hagree
  have ha : ∀ c, args m' c = Cert.KernelIdeal.Pay.args m c := fun c => by
    obtain ⟨h0, h1, h2, h3, h4, h5, h6, h7, h8, h9, h10, h11, h12, h13, h14⟩ := hagree c
    exact Args.ext h0 h1 h2 h3 h4 h5 h6 h7 h8 h9 h10 h11 h12 h13 h14
  refine ⟨fun c i => (Cert.KernelIdeal.Pay.args m c).result (i 0) (i 1) (i 2),
    (θ_run Cert.KernelIdeal.defs _ _).mono (fun r h c => ⟨(h c).1.trans (Cert.KernelIdeal.Pay.final m c), (h c).2⟩)
      (Cert.KernelIdeal.Value.run_blocks (F := Ideal) m ρ), ?_⟩
  refine (θ_run Cert.ReferenceIdeal.defs _ _).mono (fun r h c => ⟨(h c).1.trans ?_, (h c).2⟩)
    (Cert.ReferenceIdeal.Value.run (F := Ideal) m' ρ')
  refine (Cert.ReferenceIdeal.Read.val_main_v543_eq (F := Ideal) (launchContents m' c)).trans ((reference_result m' c).trans ?_)
  exact congrArg (fun (A : Args) (i : Cert.ReferenceIdeal.S4x768x576.Idx) => A.result (i 0) (i 1) (i 2)) (ha c)

end Cert.Claims

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Claims
public import Idealize.ShloMosaic.Adequacy
public import Idealize.ShloMosaic.Init

@[expose] public section

noncomputable section

namespace Cert.Proof

open Idealize.ShloMosaic Idealize.SL.Sem

/-- Everything the certificate claims. -/
theorem claim : Cert.Claim :=
  ⟨Cert.Kernel.Gen.facts, Cert.KernelIdeal.Gen.facts, Cert.ReferenceIdeal.Gen.facts,
    fun m ρ _ => Cert.Kernel.Gen.frame m ρ, fun m ρ _ => Cert.KernelIdeal.Gen.frame m ρ, Cert.Claims.frame_reference,
    Cert.Claims.preserves, Cert.Claims.algebraic⟩

end Cert.Proof

end
